-- ==== Defs.lean ====
def Pre_Kernel [hPre_swapping_Kernel : Cert.Pre_swapping_Kernel.Facts] (m : (ℓ : Loc Cert.Kernel.nD Cert.Kernel.τ Cert.Kernel.sig) → Buf (Elt Bits) ℓ) : Prop :=
  ∀ c : Dev Cert.Kernel.nD,
    (Cert.Pre_swapping_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_staying_Kernel [hPre_staying_Kernel : Cert.Pre_staying_Kernel.Facts] (m : (ℓ : Loc Cert.Kernel.nD Cert.Kernel.τ Cert.Kernel.sig) → Buf (Elt Bits) ℓ) : Prop :=
  ∀ c : Dev Cert.Kernel.nD,
    (Cert.Pre_staying_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapping_Kernel : Cert.Pre_swapping_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapping_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_staying_Kernel [hPre_staying_Kernel : Cert.Pre_staying_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_staying_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapping_ReferenceIdeal [hPre_swapping_ReferenceIdeal : Cert.Pre_swapping_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapping_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_staying_ReferenceIdeal [hPre_staying_ReferenceIdeal : Cert.Pre_staying_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_staying_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapping_Kernel : Cert.Pre_swapping_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_staying_Kernel [hKernel : Cert.Kernel.Facts] [hPre_staying_Kernel : Cert.Pre_staying_Kernel.Facts] : Prop :=
  ∀ (m : (ℓ : Loc Cert.Kernel.nD Cert.Kernel.τ Cert.Kernel.sig) → Buf (Elt Bits) ℓ) (g : Dev Cert.Kernel.nD → PrngReg), Pre_Kernel_staying_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapping_Kernel : Cert.Pre_swapping_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_staying_Kernel [hKernelIdeal : Cert.KernelIdeal.Facts] [hPre_staying_Kernel : Cert.Pre_staying_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_staying_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapping_ReferenceIdeal [hReferenceIdeal : Cert.ReferenceIdeal.Facts] [hPre_swapping_ReferenceIdeal : Cert.Pre_swapping_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapping_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_staying_ReferenceIdeal [hReferenceIdeal : Cert.ReferenceIdeal.Facts] [hPre_staying_ReferenceIdeal : Cert.Pre_staying_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_staying_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapping_Kernel : Cert.Pre_swapping_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_staying_Kernel [hKernelIdeal : Cert.KernelIdeal.Facts] [hReferenceIdeal : Cert.ReferenceIdeal.Facts] [hPre_staying_Kernel : Cert.Pre_staying_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_staying_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapping_Kernel : Cert.Pre_swapping_Kernel.Facts) (hPre_staying_Kernel : Cert.Pre_staying_Kernel.Facts) (hPre_swapping_ReferenceIdeal : Cert.Pre_swapping_ReferenceIdeal.Facts) (hPre_staying_ReferenceIdeal : Cert.Pre_staying_ReferenceIdeal.Facts),
    quiescent_Kernel (hKernel := hKernel) (hPre_swapping_Kernel := hPre_swapping_Kernel)
    ∧ quiescent_Kernel_pre_staying_Kernel (hKernel := hKernel) (hPre_staying_Kernel := hPre_staying_Kernel)
    ∧ quiescent_KernelIdeal (hKernelIdeal := hKernelIdeal) (hPre_swapping_Kernel := hPre_swapping_Kernel)
    ∧ quiescent_KernelIdeal_pre_staying_Kernel (hKernelIdeal := hKernelIdeal) (hPre_staying_Kernel := hPre_staying_Kernel)
    ∧ quiescent_ReferenceIdeal (hReferenceIdeal := hReferenceIdeal)
    ∧ quiescent_ReferenceIdeal_pre_swapping_ReferenceIdeal (hReferenceIdeal := hReferenceIdeal) (hPre_swapping_ReferenceIdeal := hPre_swapping_ReferenceIdeal)
    ∧ quiescent_ReferenceIdeal_pre_staying_ReferenceIdeal (hReferenceIdeal := hReferenceIdeal) (hPre_staying_ReferenceIdeal := hPre_staying_ReferenceIdeal)
    ∧ preserves_Kernel_KernelIdeal
    ∧ algebraic_KernelIdeal_ReferenceIdeal (hKernelIdeal := hKernelIdeal) (hReferenceIdeal := hReferenceIdeal) (hPre_swapping_Kernel := hPre_swapping_Kernel)
    ∧ algebraic_KernelIdeal_ReferenceIdeal_pre_staying_Kernel (hKernelIdeal := hKernelIdeal) (hReferenceIdeal := hReferenceIdeal) (hPre_staying_Kernel := hPre_staying_Kernel)
-- ==== Pre_staying_Kernel.lean ====
abbrev S1x1024x1024 : Shape := ⟨3, ![1, 1024, 1024]⟩
abbrev S2 : Shape := ⟨1, ![2]⟩

class Facts : Prop where

variable [Facts]

def fn {F : FTy → Type} [FloatOps F] (main_arg0 : FVec F S1x1024x1024 .bf16) (main_arg1 : IVec S2 32) : IVec S2 1 :=
  let main_v0 : IVec S2 32 := iotaInDim S2 32 0
  let main_v1 : IVec S2 1 := cmpi .eq main_arg1 main_v0
  main_v1
-- ==== Pre_staying_ReferenceIdeal.lean ====
abbrev S2x1024x1024 : Shape := ⟨3, ![2, 1024, 1024]⟩
abbrev S2 : Shape := ⟨1, ![2]⟩

class Facts : Prop where

variable [Facts]

def fn {F : FTy → Type} [FloatOps F] (main_arg0 : FVec F S2x1024x1024 .bf16) (main_arg1 : IVec S2 32) : IVec S2 1 :=
  let main_v0 : IVec S2 32 := iotaInDim S2 32 0
  let main_v1 : IVec S2 1 := cmpi .eq main_arg1 main_v0
  main_v1
-- ==== Pre_swapping_Kernel.lean ====
abbrev S1x1024x1024 : Shape := ⟨3, ![1, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x1024x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swapping_ReferenceIdeal.lean ====
abbrev S2x1024x1024 : Shape := ⟨3, ![2, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x1024x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x1024x1024 : Shape := ⟨3, ![1, 1024, 1024]⟩
abbrev S2 : Shape := ⟨1, ![2]⟩
abbrev S4x256x1024 : Shape := ⟨3, ![4, 256, 1024]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x1024x1024, .bf16⟩
  | .hbm, ⟨1, _⟩ => ⟨S2, .i32⟩
  | .hbm, ⟨2, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S4x256x1024, .bf16⟩
  | .local _ .smem, ⟨0, _⟩ => ⟨S2, .i32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v18 : BitVec 32 := Scalar.muli v2 c4_i32_5
  let v19 : BitVec 32 := Scalar.addi c0_i32_6 v18
  let c2_i32_7 : BitVec 32 := 2#32
  let v20 : BitVec 32 := Scalar.muli v10 c2_i32_7
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v22 : BitVec 32 := Scalar.muli v8 c1_i32_8
  let v23 : BitVec 32 := Scalar.addi v21 v22
  v23.toNat
def k0_cond1 (d0 : Dev nD) (v10 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 1 := Scalar.cmpi .ne v10 v5
  let v12 : BitVec 32 := Scalar.extui v11
  let c0_i32 : BitVec 32 := 0#32
  let v13 : BitVec 1 := Scalar.cmpi .ne v12 c0_i32
  v13

def k0_dev2 (d0 : Dev nD) (v10 : BitVec 32) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c2_i32_21 : BitVec 32 := 2#32
  let v31 : BitVec 32 := Scalar.muli v10 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev3 (d0 : Dev nD) (v10 : BitVec 32) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v48 : BitVec 32 := Scalar.muli v2 c4_i32_35
  let v49 : BitVec 32 := Scalar.addi c0_i32_36 v48
  let c2_i32_37 : BitVec 32 := 2#32
  let v50 : BitVec 32 := Scalar.muli v10 c2_i32_37
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v52 : BitVec 32 := Scalar.muli v8 c1_i32_38
  let v53 : BitVec 32 := Scalar.addi v51 v52
  v53.toNat
def k0_dev4 (d0 : Dev nD) (v10 : BitVec 32) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v67 : BitVec 32 := Scalar.muli v2 c4_i32_50
  let v68 : BitVec 32 := Scalar.addi c0_i32_51 v67
  let c2_i32_52 : BitVec 32 := 2#32
  let v69 : BitVec 32 := Scalar.muli v10 c2_i32_52
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v71 : BitVec 32 := Scalar.muli v8 c1_i32_53
  let v72 : BitVec 32 := Scalar.addi v70 v71
  v72.toNat
def k0_dev5 (d0 : Dev nD) (v10 : BitVec 32) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v86 : BitVec 32 := Scalar.muli v2 c4_i32_64
  let v87 : BitVec 32 := Scalar.addi c0_i32_65 v86
  let c2_i32_66 : BitVec 32 := 2#32
  let v88 : BitVec 32 := Scalar.muli v10 c2_i32_66
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v90 : BitVec 32 := Scalar.muli v8 c1_i32_67
  let v91 : BitVec 32 := Scalar.addi v89 v90
  v91.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev2 d0 v10) < nD) ∧
  (∀ (k0_h1 : k0_cond1 d0 v10 = 1#1), (k0_dev3 d0 v10) < nD) ∧
  (∀ (k0_h1 : k0_cond1 d0 v10 = 1#1), (k0_dev4 d0 v10) < nD) ∧
  (∀ (k0_h1 : k0_cond1 d0 v10 = 1#1), (k0_dev5 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.2.1 k0_h1
theorem k0_dev3_lt : ∀ (d0 : Dev nD) (v10 : BitVec 32) (k0_hw1 : k0_chk1 d0 v10), ∀ (k0_h1 : k0_cond1 d0 v10 = 1#1), (k0_dev3 d0 v10) < nD := fun d0 v10 k0_hw1 k0_h1 => k0_hw1.2.2.1 k0_h1
theorem k0_dev4_lt : ∀ (d0 : Dev nD) (v10 : BitVec 32) (k0_hw1 : k0_chk1 d0 v10), ∀ (k0_h1 : k0_cond1 d0 v10 = 1#1), (k0_dev4 d0 v10) < nD := fun d0 v10 k0_hw1 k0_h1 => k0_hw1.2.2.2.1 k0_h1
theorem k0_dev5_lt : ∀ (d0 : Dev nD) (v10 : BitVec 32) (k0_hw1 : k0_chk1 d0 v10), ∀ (k0_h1 : k0_cond1 d0 v10 = 1#1), (k0_dev5 d0 v10) < nD := fun d0 v10 k0_hw1 k0_h1 => k0_hw1.2.2.2.2 k0_h1

abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .bf16⟩
  | .hbm, ⟨14, _⟩ => ⟨S2x1024x1024, .f32⟩
  | .hbm, ⟨15, _⟩ => ⟨S2x1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.KernelIdeal.Peer.lean ====
/-
The peer of a device and the words of the permutation.

Device `c` of the 2 × 2 × 2 mesh stands at row `c / 2 % 2` of the middle axis. Its peer differs from it in that
coordinate only: two places up or two places down. The kernel reads one word of the permutation, the word at its own
row, and everything it decides afterwards is a function of that word and of `c`.
-/
module

public import proofs.«01_k».proof.Proof.Gen.KernelIdeal
public import proofs.«01_k».proof.Proof.Gen.KernelIdeal.Skeleton

@[expose] public section

noncomputable section

namespace Cert.KernelIdeal.Exchange

open Cert.KernelIdeal Cert.KernelIdeal.Gen
open Idealize.ShloMosaic
open Idealize.ShloMosaic.TcCoe

/-- The device at the same place of the first and last mesh axis and at the other place of the middle one. -/
def peer (c : Dev nD) : Dev nD :=
  if c.val / 2 % 2 = 0 then ⟨(c.val + 2) % 8, Nat.mod_lt _ (by decide)⟩ else ⟨(c.val + 6) % 8, Nat.mod_lt _ (by decide)⟩

/-- Two peers name each other. -/
theorem peer_peer (c : Dev nD) : peer (peer c) = c := by revert c; decide

/-- Taking the peer, as a re-indexing of the devices. -/
def peers : Dev nD ≃ Dev nD := ⟨peer, peer, peer_peer, peer_peer⟩

/-- The row of a device on the middle mesh axis. -/
def row (c : Dev nD) : Fin 2 := ⟨c.val / 2 % 2, Nat.mod_lt _ (by decide)⟩

/-- The word a swapping permutation holds at device `c`'s row: the other row. -/
def otherRow (c : Dev nD) : BitVec 32 := if c.val / 2 % 2 = 0 then 1#32 else 0#32

/-- The word a staying permutation holds at device `c`'s row: that row. -/
def ownRow (c : Dev nD) : BitVec 32 := if c.val / 2 % 2 = 0 then 0#32 else 1#32

/-- The word the kernel loads sits at its own row. -/
theorem word_off (c : Dev nD) : k0_off1 c = ![(row c).val] := by revert c; decide

/-- Told the other row, the kernel takes the branch that sends. -/
theorem cond_other (c : Dev nD) : k0_cond1 c (otherRow c) = 1#1 := by revert c; decide

/-- Told its own row, the kernel does not send. -/
theorem cond_own (c : Dev nD) : ¬ k0_cond1 c (ownRow c) = 1#1 := by revert c; decide

/-- Told the other row, every device the kernel names exists. -/
theorem chk_other (c : Dev nD) : k0_chk1 c (otherRow c) := by revert c; decide

/-- Told its own row, no device is named. -/
theorem chk_own (c : Dev nD) : k0_chk1 c (ownRow c) := by revert c; decide

/-- Every device the kernel names, told the other row, is the peer. -/
theorem dev_other (c : Dev nD) :
    k0_dev1 c (otherRow c) = (peer c).val ∧ k0_dev2 c (otherRow c) = (peer c).val ∧ k0_dev3 c (otherRow c) = (peer c).val
      ∧ k0_dev4 c (otherRow c) = (peer c).val ∧ k0_dev5 c (otherRow c) = (peer c).val := by revert c; decide

/-- The last branch's condition, as the kernel computes it from the device and the word. -/
def keeps (c : Dev nD) (v : BitVec 32) : BitVec 1 :=
  Scalar.cmpi .ne (Scalar.extui (Scalar.cmpi .eq v (Scalar.remsi (Scalar.divsi (Dev.word c) 2#32) 2#32)) : BitVec 32) 0#32

/-- Told the other row, the kernel does not keep its block. -/
theorem keeps_other (c : Dev nD) : ¬ keeps c (otherRow c) = 1#1 := by revert c; decide

/-- Told its own row, it does. -/
theorem keeps_own (c : Dev nD) : keeps c (ownRow c) = 1#1 := by revert c; decide

end Cert.KernelIdeal.Exchange

end
-- ==== Proof.KernelIdeal.Chunks.lean ====
/-
The four chunks of a block.

A block of 1024 rows is sent in four chunks of 256 rows. Chunk `k` of the block lies in the result's staging buffer at
rows `256 k` to `256 k + 255`, and waits to be sent in slot `k` of the four-slot scratch buffer. This module says how
the two buffers split into their chunks and what a chunk holds after it was stored and after it was sent.
-/
module

public import proofs.«01_k».proof.Proof.KernelIdeal.Peer
public import Idealize.ShloMosaic.Lib.Pipeline.Value
public import Idealize.ShloMosaic.Lib.ViewIndex

@[expose] public section

noncomputable section

namespace Cert.KernelIdeal.Exchange

open Cert.KernelIdeal Cert.KernelIdeal.Gen
open Idealize.ShloMosaic
open Idealize.ShloMosaic.TcCoe

variable {F : FTy → Type} [FloatOps F]

/-! ## The buffers and their chunks -/

/-- The staged block of `x`. -/
abbrev xM : Memref sig .tc .vmem S1x1024x1024 .bf16 := Memref.whole cc0_stg0_0
/-- The staged permutation. -/
abbrev pM : Memref sig .tc .smem S2 .i32 := Memref.whole cc0_stg1_0
/-- The staged result. -/
abbrev oM : Memref sig .tc .vmem S1x1024x1024 .bf16 := Memref.whole cc0_stg2_0
/-- The four-slot buffer the copies leave from. -/
abbrev sM : Memref sig .tc .vmem S4x256x1024 .bf16 := Memref.whole cc0_scratch0

/-- Rows `256 k` to `256 k + 255` lie in the block. -/
theorem rows_inb (k : Fin 4) (a : Fin 3) : ![0, 256 * k.val, 0] a + S1x256x1024.size a ≤ S1x1024x1024.size a := by
  revert k a; decide

/-- Slot `k` lies in the scratch buffer. -/
theorem slot_inb (k : Fin 4) (a : Fin 3) : ![k.val, 0, 0] a + S1x256x1024.size a ≤ S4x256x1024.size a := by
  revert k a; decide

/-- Rows `256 k` to `256 k + 255` of a block. -/
abbrev rows (k : Fin 4) : Rect S1x1024x1024 := Rect.unit (s := S1x1024x1024) ![0, 256 * k.val, 0] S1x256x1024.size (rows_inb k)
/-- Slot `k` of the scratch buffer. -/
abbrev slot (k : Fin 4) : Rect S4x256x1024 := Rect.unit (s := S4x256x1024) ![k.val, 0, 0] S1x256x1024.size (slot_inb k)

/-- Chunk `k` of the result, as the copies address it. -/
abbrev oC (k : Fin 4) : Memref sig .tc .vmem S256x1024 .bf16 :=
  (oM.slice (rows k) (fun _ => rfl)).squeeze S256x1024 squeezes_S1x256x1024_S256x1024
/-- Slot `k`, as the copies address it. -/
abbrev sC (k : Fin 4) : Memref sig .tc .vmem S256x1024 .bf16 :=
  (sM.slice (slot k) (fun _ => rfl)).squeeze S256x1024 squeezes_S1x256x1024_S256x1024

/-- The elements of chunk `k` of the result, as indices of a block. -/
abbrev oSet (k : Fin 4) : Finset S1x1024x1024.Idx := (oC k).view.set
/-- The elements of slot `k`, as indices of the scratch buffer. -/
abbrev sSet (k : Fin 4) : Finset S4x256x1024.Idx := (sC k).view.set

/-- The elements of chunk `k` of the result. -/
theorem oC_set (k : Fin 4) : (oC k).view.set = (rows k).set :=
  (View.set_reshape (oM.view.slice (rows k)) _).trans (View.set_slice_whole _ _)

/-- The elements of slot `k`. -/
theorem sC_set (k : Fin 4) : (sC k).view.set = (slot k).set :=
  (View.set_reshape (sM.view.slice (slot k)) _).trans (View.set_slice_whole _ _)

/-- The kernel's loads and stores of slot `k` touch exactly its elements. -/
theorem slot_access_set (k : Fin 4) : (sM.access (slot k)).set = (sC k).view.set := by
  rw [sC_set]; exact View.set_slice_whole _ _

/-- An element of the block lies in chunk `k` when its row does. -/
theorem mem_rows (k : Fin 4) (i : S1x1024x1024.Idx) : i ∈ (rows k).set ↔ 256 * k.val ≤ (i 1).val ∧ (i 1).val < 256 * k.val + 256 := by
  rw [Rect.mem_set_unit]
  constructor
  · intro h; exact h 1
  · intro h a
    match a with
    | ⟨0, _⟩ => exact ⟨Nat.zero_le _, by have := (i 0).isLt; exact this⟩
    | ⟨1, _⟩ => exact h
    | ⟨2, _⟩ => exact ⟨Nat.zero_le _, by have := (i 2).isLt; exact this⟩

/-- An element of the scratch buffer lies in slot `k` when its first index is `k`. -/
theorem mem_slot (k : Fin 4) (i : S4x256x1024.Idx) : i ∈ (slot k).set ↔ (i 0).val = k.val := by
  rw [Rect.mem_set_unit]
  constructor
  · intro h
    have h0 : k.val ≤ (i 0).val ∧ (i 0).val < k.val + 1 := h 0
    omega
  · intro h a
    match a with
    | ⟨0, _⟩ => exact ⟨h.ge, by show (i 0).val < k.val + 1; omega⟩
    | ⟨1, _⟩ => exact ⟨Nat.zero_le _, by have := (i 1).isLt; exact this⟩
    | ⟨2, _⟩ => exact ⟨Nat.zero_le _, by have := (i 2).isLt; exact this⟩

/-- Different chunks of the result have no element in common. -/
theorem oC_disjoint (k k' : Fin 4) (h : k ≠ k') : Disjoint (oC k).view.set (oC k').view.set := by
  rw [oC_set, oC_set, Finset.disjoint_left]
  intro i hi hi'
  rw [mem_rows] at hi hi'
  exact h (Fin.ext (by omega))

/-- Different slots have no element in common. -/
theorem sC_disjoint (k k' : Fin 4) (h : k ≠ k') : Disjoint (sC k).view.set (sC k').view.set := by
  rw [sC_set, sC_set, Finset.disjoint_left]
  intro i hi hi'
  rw [mem_slot] at hi hi'
  exact h (Fin.ext (by omega))

/-- The four chunks are the whole result. -/
theorem oC_cover : (Finset.univ.biUnion oSet) = Finset.univ := by
  have e : oSet = fun k => (rows k).set := funext fun k => oC_set k
  rw [e]
  refine Finset.eq_univ_iff_forall.mpr fun i => Finset.mem_biUnion.mpr ?_
  have hi : (i 1).val < 1024 := (i 1).isLt
  refine ⟨⟨(i 1).val / 256, by omega⟩, Finset.mem_univ _, ?_⟩
  refine (mem_rows _ i).mpr ?_
  exact ⟨by show 256 * ((i 1).val / 256) ≤ _; omega, by show _ < 256 * ((i 1).val / 256) + 256; omega⟩

/-- The four slots are the whole scratch buffer. -/
theorem sC_cover : (Finset.univ.biUnion sSet) = Finset.univ := by
  have e : sSet = fun k => (slot k).set := funext fun k => sC_set k
  rw [e]
  refine Finset.eq_univ_iff_forall.mpr fun i => Finset.mem_biUnion.mpr ?_
  exact ⟨⟨(i 0).val, (i 0).isLt⟩, Finset.mem_univ _, (mem_slot _ i).mpr rfl⟩

/-! ## What a chunk holds -/

/-- Storing rows `256 k` onward of a block `X` into slot `k` leaves in the slot what chunk `k` of a result equal to `X`
    would hold. -/
theorem slot_stored (k : Fin 4) (X : cc0_stg0_0.ty.Contents (Elt F)) (f : cc0_scratch0.ty.Contents (Elt F)) :
    (sC k).view.read (Elt F) ((sM.access (slot k)).write (Elt F) f (xM.view.readAt (Elt F) (rows k).toLoadRect X) Finset.univ)
      = (oC k).view.read (Elt F) (X : cc0_stg2_0.ty.Contents (Elt F)) := by
  funext i
  have h := congrFun (View.read_write_univ (v := sM.access (slot k)) (Val := Elt F) f
    (xM.view.readAt (Elt F) (rows k).toLoadRect X)) (Shape.reshapeEquiv (squeezes_S1x256x1024_S256x1024).numel_eq i)
  exact h

/-- A chunk of a result written with what chunk `k` of `X` reads holds `X` there. -/
theorem chunk_landed (k : Fin 4) (X fd : cc0_stg2_0.ty.Contents (Elt F)) :
    ∀ i ∈ (oC k).view.set, (oC k).view.write (Elt F) fd ((oC k).view.read (Elt F) X) Finset.univ i = X i := by
  intro i hi
  obtain ⟨x, -, rfl⟩ := Finset.mem_map.mp hi
  refine View.eq_of_read_eq (v := (oC k).view) (x := x) ?_
  rw [View.read_write_univ]

/-- A copy credits the same amount whichever of the two buffers its landing chunk lies in, and for every chunk. -/
theorem credit_oC (k : Fin 4) : (oC k).view.dmaCredit = (oC 0).view.dmaCredit := rfl
theorem credit_sC (k : Fin 4) : (sC k).view.dmaCredit = (oC 0).view.dmaCredit := rfl

/-! ## The payloads -/

/-- The block the staying branch stores is the block it loaded. -/
theorem pay_whole (v : Vec F S1x1024x1024 .bf16) : k0_pay1 v = v := by
  unfold k0_pay1; exact shapeCast_shapeCast _ _ _
/-- The chunks stored into the slots are the chunks loaded. -/
theorem pay_chunk0 (v : Vec F S1x256x1024 .bf16) : k0_pay2 v = v := by
  unfold k0_pay2; exact shapeCast_shapeCast _ _ _
theorem pay_chunk1 (v : Vec F S1x256x1024 .bf16) : k0_pay4 (k0_pay3 v) = v := by
  unfold k0_pay4 k0_pay3; exact shapeCast_shapeCast _ _ _
theorem pay_chunk2 (v : Vec F S1x256x1024 .bf16) : k0_pay5 v = v := by
  unfold k0_pay5; exact shapeCast_shapeCast _ _ _
theorem pay_chunk3 (v : Vec F S1x256x1024 .bf16) : k0_pay6 v = v := by
  unfold k0_pay6; exact shapeCast_shapeCast _ _ _

end Cert.KernelIdeal.Exchange

end
-- ==== Proof.KernelIdeal.Protocol.lean ====
/-
The protocol of the exchange.

Nine semaphore cells a device, each used for one round.

* The barrier cell of `c` is raised by one unit, by the peer, which hands over the whole of its own result buffer: the
  peer is inside the kernel and nothing else writes there. `c` waits for that unit before its first copy.
* Send cell `k` of `c` is raised by `c`'s own copy of chunk `k`, once the chunk has left: it hands slot `k` back.
* Receive cell `k` of `c` is raised by the peer's copy of chunk `k`, which hands over chunk `k` of `c`'s result,
  holding chunk `k` of the peer's block.

At launch a device owes the four receive cells of its peer and the barrier cell of its peer. It waits on its barrier
cell (level 1) while it owes receive cells only (level 2), and on the other eight cells when it owes nothing.
-/
module

public import proofs.«01_k».proof.Proof.KernelIdeal.Chunks
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Contents -/

/-- Device `c`'s block of `x`, as it is staged. -/
def xstg (c : Dev nD) : cc0_stg0_0.ty.Contents (Elt F) :=
  (win0_0.blk (0 : Fin 1)).view.read (Elt F) (m ((c : Thread nD τ).loc main_arg0))

/-- Device `c`'s copy of the permutation, as it is staged. -/
def pstg (c : Dev nD) : cc0_stg1_0.ty.Contents (Elt F) :=
  (win0_1.blk (0 : Fin 1)).view.read (Elt F) (m ((c : Thread nD τ).loc main_arg1))

/-- The word of the permutation the kernel on `c` loads. -/
def word (c : Dev nD) : BitVec 32 :=
  (pM.access (Rect.unit (s := S2) (k0_off1 c) S1.size (k0_off1_inb c))).read (Elt F) (pstg m c)
    (Shape.Idx.first (numel1_S1.symm ▸ Nat.one_pos))

/-- What the exchange leaves on `c`: the peer's block. -/
def outAt (c : Dev nD) : cc0_stg2_0.ty.Contents (Elt F) := xstg m (peer c)

/-! ## The cells -/

/-- Entry `k` lies in an array of four semaphores. -/
theorem entry_inb (k : Fin 4) (a : Fin 1) : ![k.val] a + S1.size a ≤ S4.size a := by revert k a; decide

/-- The runtime's barrier semaphore. -/
abbrev barS : Sem sig := (SemArray.scalar (sig.barrier 0 rfl) : Sems sig S_).sem
/-- Entry `k` of the kernel's send semaphores. -/
abbrev sendS (k : Fin 4) : DmaSem sig :=
  ((cc0_scratch1.slice (Rect.unit (s := S4) ![k.val] S1.size (entry_inb k))).squeeze S_ squeezes_S1_S_).sem
/-- Entry `k` of the kernel's receive semaphores. -/
abbrev recvS (k : Fin 4) : DmaSem sig :=
  ((cc0_scratch2.slice (Rect.unit (s := S4) ![k.val] S1.size (entry_inb k))).squeeze S_ squeezes_S1_S_).sem

/-- The names of a device's nine cells: the barrier, the send cells, the receive cells. -/
abbrev KI : Type := Option (Bool × Fin 4)

abbrev bar : KI := none
abbrev snd (k : Fin 4) : KI := some (false, k)
abbrev rcv (k : Fin 4) : KI := some (true, k)

/-- The semaphore under each name. -/
abbrev csem : KI → SemLoc sig
  | none => .reg barS
  | some (false, k) => .dma (sendS k)
  | some (true, k) => .dma (recvS k)

/-- The name of a semaphore, if it is one of the nine. -/
def cls : SemLoc sig → Option KI
  | .reg _ => some none
  | .dma q => if h : 3 ≤ q.val ∧ q.val < 7 then some (some (false, ⟨q.val - 3, by omega⟩))
      else if h : 7 ≤ q.val ∧ q.val < 11 then some (some (true, ⟨q.val - 7, by omega⟩)) else none

/-- Each of the nine semaphores has its name. -/
theorem cls_csem : ∀ k : KI, cls (csem k) = some k := by decide

/-- The cell of device `ck.1` under name `ck.2`. -/
abbrev kcell (ck : Dev nD × KI) : GSem nD τ sig := ((ck.1 : Thread nD τ), csem ck.2)

/-- Different names are different semaphores. -/
theorem csem_inj {k k' : KI} (h : csem k = csem k') : k = k' :=
  Option.some.inj ((cls_csem k).symm.trans ((congrArg cls h).trans (cls_csem k')))

/-- Different devices or names are different cells. -/
theorem kcell_injective : Function.Injective (kcell : Dev nD × KI → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- What one copy of a chunk adds to its two cells. -/
abbrev N : ℕ := (oC 0).view.dmaCredit
theorem N_pos : 0 < N := View.dmaCredit_pos _ (by decide)

/-! ## The schedule -/

/-- The whole result buffer of `c` at contents `f`. -/
def oPts (c : Dev nD) (f : Buf (Elt F) ((c : Thread nD τ).loc cc0_stg2_0)) : sProp 𝕄 := ((c : Thread nD τ).loc cc0_stg2_0) ↦{fullShare} f
/-- Chunk `k` of it. -/
def oPart (c : Dev nD) (k : Fin 4) (f : Buf (Elt F) ((c : Thread nD τ).loc cc0_stg2_0)) : sProp 𝕄 :=
  ((c : Thread nD τ).loc cc0_stg2_0) ↦[(oC k).view.set]{fullShare} f
/-- Slot `k` of `c`'s scratch buffer at contents `f`. -/
def sPart (c : Dev nD) (k : Fin 4) (f : Buf (Elt F) ((c : Thread nD τ).loc cc0_scratch0)) : sProp 𝕄 :=
  ((c : Thread nD τ).loc cc0_scratch0) ↦[(sC k).view.set]{fullShare} f

instance oPts_storable (c : Dev nD) (f) : BI.Storable (upEmb : UEmb _ 𝕄) (oPts (F := F) c f) := by unfold oPts; infer_instance
instance oPart_storable (c : Dev nD) (k f) : BI.Storable (upEmb : UEmb _ 𝕄) (oPart (F := F) c k f) := by unfold oPart; infer_instance
instance sPart_storable (c : Dev nD) (k f) : BI.Storable (upEmb : UEmb _ 𝕄) (sPart (F := F) c k f) := by unfold sPart; infer_instance

/-- The result buffer is its four chunks. -/
theorem oPts_parts (c : Dev nD) (f : Buf (Elt F) ((c : Thread nD τ).loc cc0_stg2_0)) :
    (oPts c f : sProp 𝕄) = bigSep Finset.univ fun k => oPart c k f := by
  have h := pointsTo_biUnion (ℓ := (c : Thread nD τ).loc cc0_stg2_0) (q := fullShare) (f := f) (Ix := Unit) (Name := ℕ) (U := UU) (Lvl := ℕ) (Val := Elt F)
    Finset.univ oSet (fun t _ t' _ h => oC_disjoint t t' h)
  rw [oC_cover] at h
  exact h

/-- The payload of each cell of `c`. -/
def pay (c : Dev nD) : KI → sProp 𝕄
  | none => iprop(∃ f, oPts (peer c) f)
  | some (false, k) => iprop(∃ f, sPart c k f)
  | some (true, k) => oPart c k (outAt m c)

instance pay_storable (c : Dev nD) (k : KI) : BI.Storable (upEmb : UEmb _ 𝕄) (pay (F := F) m c k) := by
  match k with
  | none => unfold pay; infer_instance
  | some (false, k) => unfold pay; infer_instance
  | some (true, k) => unfold pay; infer_instance

/-- The amount of each cell. -/
def amt : KI → ℕ
  | none => 1
  | some _ => N

/-- One round: each of the nine cells of a TensorCore has one duty. -/
def sched : Rounds.Schedule (GSem nD τ sig) Unit 𝕄 where
  duties g r := if r = 0 ∧ g.1.2 = .tc ∧ (cls g.2).isSome then {()} else ∅
  unitless _ := False
  amount g _ _ := (cls g.2).elim 1 amt
  payload g _ _ := (cls g.2).elim iprop(emp) (pay m g.1.1)
  amount_pos g _ _ _ := by
    rcases cls g.2 with _ | _ | k
    · exact Nat.one_pos
    · exact Nat.one_pos
    · exact N_pos

instance sched_payload_storable (g : GSem nD τ sig) (r : ℕ) (d : Unit) :
    BI.Storable (upEmb : UEmb _ 𝕄) ((sched (F := F) m).payload g r d) := by
  show BI.Storable upEmb ((cls g.2).elim iprop(emp) (pay m g.1.1))
  rcases cls g.2 with _ | k
  · show BI.Storable upEmb iprop(emp); infer_instance
  · exact pay_storable m g.1.1 k

section Sched
variable (c : Dev nD) (k : KI)

theorem duties_cell : (sched (F := F) m).duties (kcell (c, k)) 0 = {()} := by
  dsimp only [sched]; rw [cls_csem]; exact if_pos ⟨rfl, rfl, rfl⟩
theorem duties_later (g : GSem nD τ sig) : ∀ r, 1 ≤ r → (sched (F := F) m).duties g r = ∅ :=
  fun r hr => by dsimp only [sched]; rw [if_neg fun h => by omega]
theorem mem_duties : () ∈ (sched (F := F) m).duties (kcell (c, k)) 0 := by rw [duties_cell]; exact Finset.mem_singleton_self _
theorem amount_cell (d : Unit) : (sched (F := F) m).amount (kcell (c, k)) 0 d = amt k := by
  dsimp only [sched]; rw [cls_csem]; rfl
theorem expect_cell : (sched (F := F) m).expect (kcell (c, k)) 0 = amt k := by
  unfold Schedule.expect Schedule.amountOf; rw [duties_cell, Finset.sum_singleton, amount_cell]
theorem payload_cell (d : Unit) : (sched (F := F) m).payload (kcell (c, k)) 0 d = pay m c k := by
  dsimp only [sched]; rw [cls_csem]; rfl
theorem rest_cell : bigSep ((sched (F := F) m).duties (kcell (c, k)) 0 \ ∅) (fun d => (sched (F := F) m).payload (kcell (c, k)) 0 d) = pay m c k := by
  rw [Finset.sdiff_empty, duties_cell, bigSep_singleton, payload_cell]

end Sched

/-! ## What is owed, and the levels -/

/-- What `c` still owes before its last `n` copies: the peer's last `n` receive cells. -/
def owe (c : Dev nD) : ℕ → CellTallies nD τ sig Unit
  | 0 => 0
  | n + 1 => owe c n + tallyAt (kcell (peer c, rcv (Fin.ofNat 4 (3 - n)))) () N

/-- What `c` owes at launch: four receive cells and the barrier cell of its peer. -/
def O₀ (c : Dev nD) : CellTallies nD τ sig Unit := owe c 4 + tallyAt (kcell (peer c, bar)) () 1

def L (g : GSem nD τ sig) : Finset Unit := if g.1.2 = .tc then {()} else ∅
/-- Barrier cells at 1, receive cells at 2, all others at 0. -/
def lv (g : GSem nD τ sig) (_ : Unit) : ℕ := match cls g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KI) : lv (kcell (c, k)) () = (match k with | none => 1 | some (true, _) => 2 | some (false, _) => 0) := by
  unfold lv; rw [cls_csem]; match k with
  | none => rfl
  | some (true, _) => rfl
  | some (false, _) => rfl

/-- A tally at one cell is positive at that cell only. -/
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- Before its last copies a device owes receive cells of its peer only. -/
theorem owe_pos {c : Dev nD} {n : ℕ} {g : GSem nD τ sig} {u : Unit} (h : 0 < owe c n g u) : ∃ k, g = kcell (peer c, rcv k) := by
  induction n with
  | zero => exact absurd h (Nat.lt_irrefl 0)
  | succ n ih =>
    rw [owe, Pi.add_apply, Finsupp.add_apply] at h
    rcases Nat.eq_zero_or_pos (owe c n g u) with h0 | h0
    · rw [h0, Nat.zero_add] at h; exact ⟨_, tally_pos h⟩
    · exact ih h0

/-- At launch it owes those and the peer's barrier cell. -/
theorem O₀_pos {c : Dev nD} {g : GSem nD τ sig} {u : Unit} (h : 0 < O₀ c g u) : (∃ k, g = kcell (peer c, rcv k)) ∨ g = kcell (peer c, bar) := by
  rw [O₀, Pi.add_apply, Finsupp.add_apply] at h
  rcases Nat.eq_zero_or_pos (owe c 4 g u) with h0 | h0
  · rw [h0, Nat.zero_add] at h; exact Or.inr (tally_pos h)
  · exact Or.inl (owe_pos h0)

/-- The pipeline may wait on a staging semaphore before and after the body. -/
theorem mayWait_stage (c : Dev nD) (q : DmaSem sig) (hq : cls (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; dsimp only [lv]; rw [hq])
      (fun g u hg => by rcases O₀_pos hg with ⟨k, rfl⟩ | rfl <;> (rw [lv_cell]; exact Nat.succ_pos _))
  · rw [MayWait_zero]; iintro -; iempintro

/-- A device may wait on its barrier cell while it owes receive cells. -/
theorem mayWait_bar (c : Dev nD) : (levAts L lv : sProp 𝕄) ⊢ MayWait (c : Thread nD τ) (.reg barS) () (owe c 4) :=
  MayOwe.of_cut (L := L) (lev := lv) 1 (fun p hp => by rw [Finset.mem_singleton.mp hp, L_tc]; exact Finset.mem_singleton_self _)
    (fun g u hg => by obtain ⟨k, rfl⟩ := owe_pos hg; exact Finset.mem_singleton_self _)
    (fun p hp => by rw [Finset.mem_singleton.mp hp]; exact (lv_cell c bar).le)
    (fun g u hg => by obtain ⟨k, rfl⟩ := owe_pos hg; rw [lv_cell]; exact Nat.lt_succ_self 1)

end Cert.KernelIdeal.Exchange

end
-- ==== Proof.KernelIdeal.Steps.lean ====
/-
The steps of the exchange, each proved once.

A device loads rows of its block, stores them into a slot, sends the slot, and later waits for what it sent and for
what the peer sent. Each of these steps is stated here for every device and every chunk; the body of the kernel uses
each of them four times.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, at the names `K`. -/
def records (K : Dev nD × KI → ℕ) : sProp 𝕄 :=
  iprop((bigSep Finset.univ fun ck : Dev nD × KI => cellInv ER (sched m) (K ck) (kcell ck))
    ∗ bigSep Finset.univ fun ck : Dev nD × KI => reached ER (kcell ck) 0)

instance records_persistent (K : Dev nD × KI → ℕ) : BI.Persistent (records m K) := by unfold records; infer_instance

/-- One cell's invariant, and that its round is open, out of all of them. -/
theorem records_at (K : Dev nD × KI → ℕ) (ck : Dev nD × KI) :
    records m K ⊢ iprop(cellInv ER (sched m) (K ck) (kcell ck) ∗ reached ER (kcell ck) 0) := by
  unfold records
  exact BI.sep_mono (bigSep_elim (Finset.mem_univ ck)) (bigSep_elim (Finset.mem_univ ck))

/-- What `wp` says of a program of `c`'s TensorCore. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × KI → ℕ)

/-- Loading slot `k` needs slot `k` only. What is read is of no use. -/
theorem load_slot (c : Dev nD) (k : Fin 4) {f : Buf (Elt F) ((c : Thread nD τ).loc cc0_scratch0)} {hl : sM.view.LoadsAt (slot k).toLoadRect}
    {α : Type} {Q : α → sProp 𝕄} {p : (S1x256x1024.Idx → Elt F .bf16) → Prog (TpuEff nD τ sig (Elt F) Λ₀ .tc) α} :
    sPart c k f ⊢ iprop((∀ v, sPart c k f -∗ runs c (p v) Q) -∗ runs c (.op (.load sM (slot k).toLoadRect hl) p) Q) := by
  iintro Hs Hk
  unfold sPart
  iapply (wp_load 𝒱₀ (c : Thread nD τ) none Set.univ (m := sM) (by
    rw [← slot_access_set]; exact (View.set_slice sM.view (slot k)).symm.subset)) $$ Hs
  iintro Hs
  iapply Hk
  iexact Hs

/-- Storing into slot `k` needs slot `k` only. -/
theorem store_slot (c : Dev nD) (k : Fin 4) {f : Buf (Elt F) ((c : Thread nD τ).loc cc0_scratch0)} {w : S1x256x1024.Idx → Elt F .bf16}
    {hx : (sM.access (slot k)).Stores Finset.univ} {hm : (Finset.univ : Finset (slot k).shape.Idx) = Finset.univ ∨ ∀ a, (slot k).stride a = 1}
    {α : Type} {Q : α → sProp 𝕄} {p : PUnit → Prog (TpuEff nD τ sig (Elt F) Λ₀ .tc) α} :
    sPart c k f ⊢ iprop((sPart c k ((sM.access (slot k)).write (Elt F) f w Finset.univ) -∗ runs c (p ⟨⟩) Q)
      -∗ runs c (.op (.store sM (slot k) w Finset.univ hx hm) p) Q) := by
  unfold sPart
  exact wp_store 𝒱₀ (c : Thread nD τ) none Set.univ (m := sM) (r := slot k) (Mk := Finset.univ) (by
    rw [View.setOn_univ, slot_access_set])

/-- Slot `k`, sent, is what the send cell hands back. -/
theorem slot_pays (c : Dev nD) (k : Fin 4) (fs : Buf (Elt F) ((c : Thread nD τ).loc cc0_scratch0)) :
    sPart c k fs ⊢ (sched m).payload (kcell (c, snd k)) 0 () := by
  rw [payload_cell]
  unfold pay
  iintro H
  iexists fs
  iexact H

/-- Chunk `k` of the peer's result, written with chunk `k` of `c`'s block, is what the peer's receive cell hands over. -/
theorem chunk_pays (c : Dev nD) (k : Fin 4) (fs : Buf (Elt F) ((c : Thread nD τ).loc cc0_scratch0))
    (fn : Buf (Elt F) ((peer c : Thread nD τ).loc cc0_stg2_0))
    (hfs : (sC k).view.read (Elt F) fs = (oC k).view.read (Elt F) (xstg m c : cc0_stg2_0.ty.Contents (Elt F))) :
    oPart (peer c) k ((oC k).view.write (Elt F) fn ((sC k).view.read (Elt F) fs) Finset.univ)
      ⊢ (sched m).payload (kcell (peer c, rcv k)) 0 () := by
  rw [payload_cell]
  unfold pay outAt
  rw [hfs, peer_peer]
  unfold oPart
  rw [pointsTo_congr (chunk_landed k _ fn)]

/-- Both cells of a copy are raised by the same amount. -/
theorem chunk_amount (k : Fin 4) (q : DmaSem sig) : (oC k).view.amount (.dma q) = N := credit_oC k

/-- Raising the peer's barrier cell hands the peer the whole result buffer of `c`. -/
theorem signal_peer (c n : Dev nD) (hn : n = peer c) {O O' : CellTallies nD τ sig Unit} (hO : O' = O + tallyAt (kcell (peer c, bar)) () 1)
    (f : Buf (Elt F) ((c : Thread nD τ).loc cc0_stg2_0)) {w : ℕ} (hw : w = 1) {W : Waits sig Unit}
    {α : Type} {Q : α → sProp 𝕄} {p : PUnit → Prog (TpuEff nD τ sig (Elt F) Λ₀ .tc) α} :
    iprop(records m K ∗ owes (c : Thread nD τ) O' W ∗ dutyTok ER (kcell (peer c, bar)) 0 () ∗ oPts c f)
      ⊢ iprop((owes (c : Thread nD τ) O W -∗ runs c (p ⟨⟩) Q)
        -∗ runs c (.op (.semSignal (Dev.tc n : Thread nD τ) barS w) p) Q) := by
  subst hn hw
  have h1 := mem_duties m (peer c) bar
  have h2 := amount_cell m (peer c) bar ()
  have h3 := payload_cell m (peer c) bar ()
  iintro ⟨#HR, HO, Htok, Ho⟩
  icases (records_at m K (peer c, bar)) $$ HR with ⟨#HI, #HR1⟩
  iapply (Rounds.wp_signal 𝒱₀ ER (sched m) (c : Thread nD τ) none (dst := (peer c : Thread nD τ)) (κ := K (peer c, bar)) (d := ()) h1 h2
    () O hO) $$ [HO Htok Ho]
  isplitr; · iexact HI
  isplitl [HO]; · iexact HO
  isplitl [Htok]; · iexact Htok
  isplitl [Ho]
  · rw [h3]
    unfold pay
    rw [peer_peer]
    iexists f
    iexact Ho
  iexact HR1

/-- Sending slot `k`, filled with chunk `k` of `c`'s block, into chunk `k` of the peer's result. Afterwards one receive
    cell fewer is owed, and `c` may wait for its send cell. -/
theorem send_slot (c n : Dev nD) (hn : n = peer c) (k : Fin 4) {O O' : CellTallies nD τ sig Unit}
    (hO : O' = O + tallyAt (kcell (peer c, rcv k)) () N)
    {hsc : (oC k).view.ref.isScScratch = false} {hsrc : (sC k).view.WordExact} {hdst : (oC k).view.WordExact}
    {hsem : DmaTarget.Typed .vmem (.dma (recvS k)) (.remote (Dev.tc n : Thread nD τ) (oC k) (.dma (sendS k)) hsc)}
    {fs : Buf (Elt F) ((c : Thread nD τ).loc cc0_scratch0)} (fn : Buf (Elt F) ((peer c : Thread nD τ).loc cc0_stg2_0))
    (hfs : (sC k).view.read (Elt F) fs = (oC k).view.read (Elt F) (xstg m c : cc0_stg2_0.ty.Contents (Elt F))) {W : Waits sig Unit}
    {α : Type} {Q : α → sProp 𝕄} {p : PUnit → Prog (TpuEff nD τ sig (Elt F) Λ₀ .tc) α} :
    iprop(records m K ∗ sPart c k fs ∗ oPart (peer c) k fn ∗ owes (c : Thread nD τ) O' W
        ∗ dutyTok ER (kcell (c, snd k)) 0 () ∗ dutyTok ER (kcell (peer c, rcv k)) 0 ())
      ⊢ iprop(((cred (tallyAt (kcell (c, snd k)) () N) ∗ owes (c : Thread nD τ) O W) -∗ runs c (p ⟨⟩) Q)
        -∗ runs c (.op (.enqueueDma (sC k) (.remote (Dev.tc n : Thread nD τ) (oC k) (.dma (sendS k)) hsc) (.dma (recvS k)) hsrc hdst hsem) p) Q) := by
  subst hn
  have hr : τ.routes (c : Thread nD τ) (peer c : Thread nD τ) = true := by routes
  have h1 := mem_duties m c (snd k)
  have h2 := mem_duties m (peer c) (rcv k)
  have h3 := chunk_amount k (recvS k)
  have h4 := amount_cell m c (snd k) ()
  have h5 := amount_cell m (peer c) (rcv k) ()
  have h6 := slot_pays m c k fs
  have h7 := chunk_pays m c k fs fn hfs
  iintro ⟨#HR, Hs, Ho, HO, HtS, HtV⟩
  icases (records_at m K (c, snd k)) $$ HR with ⟨#HI1, #HR1⟩
  icases (records_at m K (peer c, rcv k)) $$ HR with ⟨#HI2, #HR2⟩
  unfold sPart at h6 ⊢
  unfold oPart at h7 ⊢
  iapply (Rounds.wp_send_pointsTo (defs := defs₀ (F := F)) 𝒱₀ ER (sched m) (c : Thread nD τ) none (Γ := PendingWaitsCtx.empty) (κ₁ := K (c, snd k)) (κ₂ := K (peer c, rcv k))
    (c' := (peer c : Thread nD τ)) (sS := .dma (sendS k)) (sem := .dma (recvS k))
    (src := sC k) (dst := oC k) (hsc := hsc) (hsrc := hsrc) (hdst := hdst) (hsem := hsem) (k := p) (q := fullShare)
    (r₁ := 0) (r₂ := 0) (d₁ := ()) (d₂ := ()) (fs := fs) (fd := fn) (Q := Q) h1 h2 () () N h3 h4 h5 O hO (W := W) h6 h7 (Es := Set.univ) (hr := hr)) $$ [Hs Ho HO HtS HtV]
  isplitr; · iexact HI1
  isplitr; · iexact HI2
  isplitl [Hs]; · iexact Hs
  isplitl [Ho]; · iexact Ho
  isplitl [HO]; · iexact HO
  isplitl [HtS]; · iexact HtS
  isplitr; · iexact HR1
  isplitl [HtV]; · iexact HtV
  iexact HR2

/-- Waiting on the barrier cell while receive cells are owed: the peer's whole result buffer comes with it. -/
theorem wait_bar (c : Dev nD) {w : ℕ} (hw : w = 1) {W : Waits sig Unit}
    {α : Type} {Q : α → sProp 𝕄} {p : PUnit → Prog (TpuEff nD τ sig (Elt F) Λ₀ .tc) α} :
    iprop(records m K ∗ levAts L lv ∗ cred (tallyAt (kcell (c, bar)) () 1) ∗ owes (c : Thread nD τ) (owe c 4) W ∗ atPos ER (kcell (c, bar)) 0 ∅ 0)
      ⊢ iprop(((∃ W', owes (c : Thread nD τ) (owe c 4) W') ∗ atPos ER (kcell (c, bar)) 1 ∅ 0 ∗ (∃ f, oPts (peer c) f) -∗ runs c (p ⟨⟩) Q)
        -∗ runs c (.op (.semWait barS w) p) Q) := by
  subst hw
  have he : 0 + 1 = (sched (F := F) m).expect (kcell (c, bar)) 0 := by rw [expect_cell]; rfl
  have hr := rest_cell m c bar
  iintro ⟨#HR, #HL, Hc, HO, Hat⟩ Hk
  icases (records_at m K (c, bar)) $$ HR with ⟨#HI, -⟩
  iapply (Rounds.wp_wait_rest_token 𝒱₀ ER (sched m) (c : Thread nD τ) none (sm := .reg barS) (κ := K (c, bar))
      (wpE_semWait_eq 𝒱₀ (c : Thread nD τ) none Set.univ) (Set.mem_univ _) () (O := owe c 4) (W := W) (R := 0) (m := 0) (T := ∅)
      he) $$ [Hc HO Hat]
  · isplitr; · iexact HI
    isplitl [Hc]; · iexact Hc
    isplitl [HO]; · iexact HO
    isplitr; · iapply (mayWait_bar c); iexact HL
    iexact Hat
  iintro ⟨HO, Hat, -, Hpay⟩
  ihave Hp := (Entails.of_eq hr) $$ Hpay
  iapply Hk
  isplitl [HO]; · iexists _; iexact HO
  isplitl [Hat]; · iexact Hat
  unfold pay
  iexact Hp

/-- Waiting for one of the copies, its own or the peer's: the cell's payload comes with it. -/
theorem wait_copy (c : Dev nD) (x : Bool × Fin 4) {q : DmaSem sig} (hq : csem (some x) = .dma q) {b : Ref sig .tc} {s : Shape} {e : EltTy}
    (hN : b.dmaCredit s e = N) {hd} {W : Waits sig Unit}
    {α : Type} {Q : α → sProp 𝕄} {p : PUnit → Prog (TpuEff nD τ sig (Elt F) Λ₀ .tc) α} :
    iprop(records m K ∗ cred (tallyAt (kcell (c, some x)) () N) ∗ owes (c : Thread nD τ) 0 W ∗ atPos ER (kcell (c, some x)) 0 ∅ 0)
      ⊢ iprop(((∃ W', owes (c : Thread nD τ) 0 W') ∗ atPos ER (kcell (c, some x)) 1 ∅ 0 ∗ pay m c (some x) -∗ runs c (p ⟨⟩) Q)
        -∗ runs c (.op (.waitDma q b s e hd) p) Q) := by
  have hg : kcell (c, some x) = ((c : Thread nD τ), SemLoc.dma q) := by dsimp only [kcell]; rw [hq]
  have he : (sched (F := F) m).expect ((c : Thread nD τ), SemLoc.dma q) 0 = N := by rw [← hg, expect_cell]; rfl
  have hr := rest_cell m c (some x)
  rw [hg] at hr ⊢
  iintro ⟨#HR, Hc, HO, Hat⟩ Hk
  icases (records_at m K (c, some x)) $$ HR with ⟨#HI, -⟩
  rw [hg]
  iapply (Rounds.wp_wait_rest_token 𝒱₀ ER (sched m) (c : Thread nD τ) none (κ := K (c, some x))
      (wpE_waitDma_eq 𝒱₀ (c : Thread nD τ) none Set.univ) (Set.mem_univ _) () (O := 0) (W := W) (R := 0) (m := 0) (T := ∅)
      (by rw [Nat.zero_add, he, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hr) $$ Hpay
  iapply Hk
  isplitl [HO]; · iexists _; iexact HO
  isplitl [Hat]; · iexact Hat
  iexact Hp

/-- With every round over, the nine cells of `c` close and their counters stand at zero. -/
theorem close_cells (c : Dev nD) :
    iprop(records m K ∗ bigSep Finset.univ fun k : KI => atPos ER (kcell (c, k)) 1 ∅ 0)
      ⊢ (|={Set.univ}=> bigSep Finset.univ fun k : KI => semVal (kcell (c, k)) 0 : sProp 𝕄) := by
  refine BI.Entails.trans ?_ (bigSep_fupd (Finset.univ : Finset KI) _)
  refine (sep_mono_left (BI.bigSep_of_persistent (Finset.univ : Finset KI) (records m K))).trans ?_
  rw [← bigSep_sep']
  refine bigSep_mono fun k _ => ?_
  show iprop(records m K ∗ atPos ER (kcell (c, k)) 1 ∅ 0) ⊢ (|={Set.univ}=> semVal (kcell (c, k)) 0 : sProp 𝕄)
  iintro ⟨#HR, Hat⟩
  icases (records_at m K (c, k)) $$ HR with ⟨#HI, -⟩
  iapply (Rounds.cell_close ER (sched m) (Set.mem_univ (K (c, k))) (fun h => h) (R := 1) (duties_later m (kcell (c, k)))) $$ [Hat]
  isplitr; · iexact HI
  iexact Hat

end Cert.KernelIdeal.Exchange

end
-- ==== Proof.KernelIdeal.Body.lean ====
/-
What the body of the kernel does on one device when the permutation swaps the two rows.

The body is followed from its first operation to its last: the barrier, the four chunks sent, the eight waits. It
starts from the device's share of the protocol and ends with the peer's block in the result buffer, the scratch buffer
whole again and every semaphore at zero.
-/
module

public import proofs.«01_k».proof.Proof.KernelIdeal.Steps
public import proofs.«01_k».proof.Proof.KernelIdeal.Peer
public import proofs.«01_k».proof.Proof.Gen.KernelIdeal.Skeleton

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The cell whose duty `c` pays under each name: the peer's barrier, `c`'s own send cells, the peer's receive cells. -/
def paid (c : Dev nD) : KI → Dev nD
  | none => peer c
  | some (false, _) => c
  | some (true, _) => peer c

/-- `c`'s share of the protocol: the records, its positions, and the tokens of the duties it pays. -/
def ghost (K : Dev nD × KI → ℕ) (c : Dev nD) : sProp 𝕄 :=
  iprop(records m K ∗ (bigSep Finset.univ fun k : KI => atPos ER (kcell (c, k)) 0 ∅ 0)
    ∗ bigSep Finset.univ fun k : KI => dutyTok ER (kcell (paid c k, k)) 0 ())

/-- What `c`'s body starts from: its share at some names, the credits of its barrier and receive cells, the levels. -/
def start (c : Dev nD) : sProp 𝕄 :=
  iprop((∃ K, ghost m K c) ∗ cred (tallyAt (kcell (c, bar)) () 1) ∗ (bigSep Finset.univ fun k : Fin 4 => cred (tallyAt (kcell (c, rcv k)) () N))
    ∗ levAts L lv)

/-- The whole scratch buffer of `c` at contents `f`. -/
def sPts (c : Dev nD) (f : Buf (Elt F) ((c : Thread nD τ).loc cc0_scratch0)) : sProp 𝕄 := ((c : Thread nD τ).loc cc0_scratch0) ↦{fullShare} f

/-- Before the body: the start and the scratch buffer. -/
def Φ₀ (c : Dev nD) : sProp 𝕄 := iprop(start m c ∗ ∃ f, sPts c f)
/-- After it: the scratch buffer and the nine cells at zero. -/
def Φ₁ (c : Dev nD) : sProp 𝕄 := iprop((∃ f, sPts (F := F) c f) ∗ bigSep Finset.univ fun k : KI => semVal (kcell (c, k)) 0)

/-- A separating product over the nine names, written out. -/
theorem bigSep_KI (Φ : KI → sProp 𝕄) : bigSep Finset.univ Φ
    = iprop(Φ bar ∗ Φ (snd 0) ∗ Φ (snd 1) ∗ Φ (snd 2) ∗ Φ (snd 3) ∗ Φ (rcv 0) ∗ Φ (rcv 1) ∗ Φ (rcv 2) ∗ Φ (rcv 3)) :=
  bigSep_univ_eq_bigSepL [bar, snd 0, snd 1, snd 2, snd 3, rcv 0, rcv 1, rcv 2, rcv 3] (by decide) (by decide) Φ
/-- And over the four chunks. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The scratch buffer is its four slots. -/
theorem sPts_parts (c : Dev nD) (f : Buf (Elt F) ((c : Thread nD τ).loc cc0_scratch0)) :
    (sPts c f : sProp 𝕄) = bigSep Finset.univ fun k => sPart c k f := by
  have h := pointsTo_biUnion (ℓ := (c : Thread nD τ).loc cc0_scratch0) (q := fullShare) (f := f) (Ix := Unit) (Name := ℕ) (U := UU) (Lvl := ℕ) (Val := Elt F)
    Finset.univ sSet (fun t _ t' _ h => sC_disjoint t t' h)
  rw [sC_cover] at h
  exact h

/-- Four slots, whatever each holds, are the scratch buffer again. -/
theorem sPts_join (c : Dev nD) (g : Fin 4 → Buf (Elt F) ((c : Thread nD τ).loc cc0_scratch0)) :
    (bigSep Finset.univ fun k => sPart c k (g k)) ⊢ (iprop(∃ f, sPts c f) : sProp 𝕄) := by
  have h := pointsTo_biUnion_join (ℓ := (c : Thread nD τ).loc cc0_scratch0) (q := fullShare) (Ix := Unit) (Name := ℕ) (U := UU) (Lvl := ℕ) (Val := Elt F)
    Finset.univ sSet g (g 0) (fun t _ t' _ h => sC_disjoint t t' h)
  rw [sC_cover] at h
  unfold sPart sPts
  iintro H
  ihave H' := h $$ H
  icases H' with ⟨%f, -, H⟩
  iexists f
  iexact H

/-! ## The pipeline's data -/

/-- The grid has the one point. -/
def t₀ : Fin cfg0.N := ⟨0, by decide⟩

/-- What the pipeline is told: the contents of the arrays, what the body leaves in each staging buffer, what it carries
    and what it owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => pstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole staging buffer held at known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- One chunk's share of the body: rows `k` loaded and stored into slot `k`, the slot sent. -/
theorem copy_chunk (K : Dev nD × KI → ℕ) (c n : Dev nD) (hn : n = peer c) (k : Fin 4) {O O' : CellTallies nD τ sig Unit}
    (hO : O' = O + tallyAt (kcell (peer c, rcv k)) () N)
    {hl : xM.view.LoadsAt (rows k).toLoadRect} {hl' : sM.view.LoadsAt (slot k).toLoadRect}
    {w : (S1x256x1024.Idx → Elt F .bf16) → S1x256x1024.Idx → Elt F .bf16} (hw : ∀ v, w v = v)
    {hx : (sM.access (slot k)).Stores Finset.univ} {hm : (Finset.univ : Finset (slot k).shape.Idx) = Finset.univ ∨ ∀ a, (slot k).stride a = 1}
    {hsc : (oC k).view.ref.isScScratch = false} {hsrc : (sC k).view.WordExact} {hdst : (oC k).view.WordExact}
    {hsem : DmaTarget.Typed .vmem (.dma (recvS k)) (.remote (Dev.tc n : Thread nD τ) (oC k) (.dma (sendS k)) hsc)}
    (f : Buf (Elt F) ((c : Thread nD τ).loc cc0_scratch0)) (fn : Buf (Elt F) ((peer c : Thread nD τ).loc cc0_stg2_0)) {W : Waits sig Unit}
    {α : Type} {Q : α → sProp 𝕄} {p : PUnit → Prog (TpuEff nD τ sig (Elt F) Λ₀ .tc) α} :
    iprop(records m K ∗ (((c : Thread nD τ).loc cc0_stg0_0) ↦{fullShare} (xstg m c : Buf (Elt F) ((c : Thread nD τ).loc cc0_stg0_0)))
        ∗ sPart c k f ∗ oPart (peer c) k fn ∗ owes (c : Thread nD τ) O' W
        ∗ dutyTok ER (kcell (c, snd k)) 0 () ∗ dutyTok ER (kcell (peer c, rcv k)) 0 ())
      ⊢ iprop(((((c : Thread nD τ).loc cc0_stg0_0) ↦{fullShare} (xstg m c : Buf (Elt F) ((c : Thread nD τ).loc cc0_stg0_0)))
            ∗ cred (tallyAt (kcell (c, snd k)) () N) ∗ owes (c : Thread nD τ) O W -∗ runs c (p ⟨⟩) Q)
        -∗ runs c (.op (.load xM (rows k).toLoadRect hl) fun v => .op (.load sM (slot k).toLoadRect hl') fun _ =>
            .op (.store sM (slot k) (w v) Finset.univ hx hm) fun _ =>
            .op (.enqueueDma (sC k) (.remote (Dev.tc n : Thread nD τ) (oC k) (.dma (sendS k)) hsc) (.dma (recvS k)) hsrc hdst hsem) p) Q) := by
  iintro ⟨#HR, Hx, Hs, Ho, HO, HtS, HtV⟩ Hk
  iapply (wp_load 𝒱₀ (c : Thread nD τ) none Set.univ (m := xM) (Finset.subset_univ _)) $$ Hx
  iintro Hx
  rw [hw]
  iapply (load_slot c k) $$ Hs
  iintro %v Hs
  iapply (store_slot c k) $$ Hs
  iintro Hs
  iapply (send_slot m K c n hn k hO fn (slot_stored k (xstg m c) f)) $$ [Hs Ho HO HtS HtV]
  · isplitr; · iexact HR
    isplitl [Hs]; · iexact Hs
    isplitl [Ho]; · iexact Ho
    isplitl [HO]; · iexact HO
    isplitl [HtS] <;> iassumption
  iintro ⟨Hc, HO⟩
  iapply Hk
  isplitl [Hx]; · iexact Hx
  isplitl [Hc] <;> iassumption

/-! ## The body -/

/-- What the body finds. -/
def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it leaves. -/
def bodyPost (c : Dev nD) : sProp 𝕄 :=
  iprop(Φ₁ c ∗ (dats m ρ 0 c).owesAt () t₀.succ ∗ stg c cc0_stg0_0 (xstg m c) ∗ stg c cc0_stg1_0 (pstg m c) ∗ stg c cc0_stg2_0 (outAt m c))

set_option maxHeartbeats 1600000 in
/-- The body on one device, told the other row. -/
theorem sound_body (c : Dev nD) (hw : word m c = otherRow c) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) pM (Memref.isWhole_whole _) oM (Memref.isWhole_whole _) sM (Memref.isWhole_whole _)
            cc0_scratch1 cc0_scratch2) Kt := by
  simp only [cc0_body_eq_skeleton]; unfold cc0_body_skel
  simp only [smemLoad, smemLoadElt, Prog.lift, Prog.bind_op, Prog.bind_ret, Prog.pure_eq_ret, wp_deviceId]
  unfold bodyPre Φ₀ start ghost
  iintro ⟨⟨⟨⟨⟨%K, #HR, Hat, Htok⟩, HcB, HcR, #Hlev⟩, ⟨%f0, Hscr⟩⟩,
    Ho, ⟨%d0, %g0, %hg0, Hx⟩, ⟨%d1, %g1, %hg1, Hp⟩, ⟨%d2, %g2, %hg2, Hout⟩⟩, Hk⟩
  have hx : g0 = xstg m c := by rw [hg0]; unfold Dat.before; rw [if_pos (fetch0_0 t₀)]; rfl
  have hp : g1 = pstg m c := by rw [hg1]; unfold Dat.before; rw [if_pos (fetch0_1 t₀)]; rfl
  subst hx hp
  unfold Dat.owesAt Pipeline.owesWithin
  icases Ho with ⟨%W, %hW, HO⟩
  rw [show (dats m ρ 0 c).owed t₀.castSucc = O₀ c from rfl]
  iapply (wp_load_rect 𝒱₀ (c : Thread nD τ) none Set.univ (m := pM) (r := Rect.unit (s := S2) (k0_off1 c) S1.size (k0_off1_inb c)) (Finset.subset_univ _)) $$ Hp
  iintro Hp
  rw [show (pM.access (Rect.unit (s := S2) (k0_off1 c) S1.size (k0_off1_inb c))).read (Elt F) (pstg m c)
    (Shape.Idx.first (numel1_S1.symm ▸ Nat.one_pos)) = otherRow c from hw]
  simp only [wp_assume_of _ _ _ _ (d := k0_chk1.dec _ _) (chk_other c)]
  rw [dif_pos (cond_other c)]
  have hk := keeps_other c
  unfold keeps at hk
  simp only [hk, if_false]
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret]
  -- the shares, cell by cell
  ihave Hat := (Entails.of_eq (bigSep_KI fun k => (atPos ER (kcell (c, k)) 0 ∅ 0 : sProp 𝕄))) $$ Hat
  ihave Htok := (Entails.of_eq (bigSep_KI fun k => (dutyTok ER (kcell (paid c k, k)) 0 () : sProp 𝕄))) $$ Htok
  ihave HcR := (Entails.of_eq (bigSep_four fun k => (cred (tallyAt (kcell (c, rcv k)) () N) : sProp 𝕄))) $$ HcR
  ihave Hscr := (Entails.of_eq ((sPts_parts c f0).trans (bigSep_four _))) $$ Hscr
  icases Hat with ⟨HaB, HaS0, HaS1, HaS2, HaS3, HaV0, HaV1, HaV2, HaV3⟩
  icases Htok with ⟨Htb, Htk0, Htk1, Htk2, Htk3, Hrk0, Hrk1, Hrk2, Hrk3⟩
  icases HcR with ⟨Hv0, Hv1, Hv2, Hv3⟩
  icases Hscr with ⟨Hs0, Hs1, Hs2, Hs3⟩
  -- the barrier
  iapply (signal_peer m K c _ (Fin.ext (dev_other c).1) (O := owe c 4) (O' := O₀ c) rfl g2 rfl) $$ [HO Htb Hout]
  · isplitr; · iexact HR
    isplitl [HO]; · iexact HO
    isplitl [Htb]; · iexact Htb
    unfold oPts; iexact Hout
  iintro HO
  iapply (wait_bar m K c rfl) $$ [HcB HO HaB]
  · isplitr; · iexact HR
    isplitr; · iexact Hlev
    isplitl [HcB]; · iexact HcB
    isplitl [HO] <;> iassumption
  iintro ⟨⟨%Wb, HO⟩, HaB, ⟨%fn, Hout⟩⟩
  ihave Hout := (Entails.of_eq ((oPts_parts (peer c) fn).trans (bigSep_four _))) $$ Hout
  icases Hout with ⟨Ho0, Ho1, Ho2, Ho3⟩
  -- chunk 0
  iapply (copy_chunk m K c _ (Fin.ext (dev_other c).2.1) 0 (O := owe c 3) (O' := owe c 4) rfl (w := k0_pay2) pay_chunk0 f0 fn) $$ [Hx Hs0 Ho0 HO Htk0 Hrk0]
  · isplitr; · iexact HR
    isplitl [Hx]; · iexact Hx
    isplitl [Hs0]; · iexact Hs0
    isplitl [Ho0]; · iexact Ho0
    isplitl [HO]; · iexact HO
    isplitl [Htk0]; · iexact Htk0
    iexact Hrk0
  iintro ⟨Hx, Hc0, HO⟩
  -- chunk 1
  iapply (copy_chunk m K c _ (Fin.ext (dev_other c).2.2.1) 1 (O := owe c 2) (O' := owe c 3) rfl (w := (fun v => k0_pay4 (k0_pay3 v))) pay_chunk1 f0 fn) $$ [Hx Hs1 Ho1 HO Htk1 Hrk1]
  · isplitr; · iexact HR
    isplitl [Hx]; · iexact Hx
    isplitl [Hs1]; · iexact Hs1
    isplitl [Ho1]; · iexact Ho1
    isplitl [HO]; · iexact HO
    isplitl [Htk1]; · iexact Htk1
    iexact Hrk1
  iintro ⟨Hx, Hc1, HO⟩
  -- chunk 2
  iapply (copy_chunk m K c _ (Fin.ext (dev_other c).2.2.2.1) 2 (O := owe c 1) (O' := owe c 2) rfl (w := k0_pay5) pay_chunk2 f0 fn) $$ [Hx Hs2 Ho2 HO Htk2 Hrk2]
  · isplitr; · iexact HR
    isplitl [Hx]; · iexact Hx
    isplitl [Hs2]; · iexact Hs2
    isplitl [Ho2]; · iexact Ho2
    isplitl [HO]; · iexact HO
    isplitl [Htk2]; · iexact Htk2
    iexact Hrk2
  iintro ⟨Hx, Hc2, HO⟩
  -- chunk 3
  iapply (copy_chunk m K c _ (Fin.ext (dev_other c).2.2.2.2) 3 (O := owe c 0) (O' := owe c 1) rfl (w := k0_pay6) pay_chunk3 f0 fn) $$ [Hx Hs3 Ho3 HO Htk3 Hrk3]
  · isplitr; · iexact HR
    isplitl [Hx]; · iexact Hx
    isplitl [Hs3]; · iexact Hs3
    isplitl [Ho3]; · iexact Ho3
    isplitl [HO]; · iexact HO
    isplitl [Htk3]; · iexact Htk3
    iexact Hrk3
  iintro ⟨Hx, Hc3, HO⟩
  rw [show owe c 0 = 0 from rfl]
  -- the waits
  iapply (wait_copy m K c (true, 0) rfl (credit_oC 0)) $$ [Hv0 HO HaV0]
  · isplitr; · iexact HR
    isplitl [Hv0]; · iexact Hv0
    isplitl [HO] <;> iassumption
  iintro ⟨⟨%Wrcv0, HO⟩, HaV0, Hr0⟩
  iapply (wait_copy m K c (true, 1) rfl (credit_oC 1)) $$ [Hv1 HO HaV1]
  · isplitr; · iexact HR
    isplitl [Hv1]; · iexact Hv1
    isplitl [HO] <;> iassumption
  iintro ⟨⟨%Wrcv1, HO⟩, HaV1, Hr1⟩
  iapply (wait_copy m K c (true, 2) rfl (credit_oC 2)) $$ [Hv2 HO HaV2]
  · isplitr; · iexact HR
    isplitl [Hv2]; · iexact Hv2
    isplitl [HO] <;> iassumption
  iintro ⟨⟨%Wrcv2, HO⟩, HaV2, Hr2⟩
  iapply (wait_copy m K c (true, 3) rfl (credit_oC 3)) $$ [Hv3 HO HaV3]
  · isplitr; · iexact HR
    isplitl [Hv3]; · iexact Hv3
    isplitl [HO] <;> iassumption
  iintro ⟨⟨%Wrcv3, HO⟩, HaV3, Hr3⟩
  iapply (wait_copy m K c (false, 0) rfl (credit_sC 0)) $$ [Hc0 HO HaS0]
  · isplitr; · iexact HR
    isplitl [Hc0]; · iexact Hc0
    isplitl [HO] <;> iassumption
  iintro ⟨⟨%Wsnd0, HO⟩, HaS0, Hs0⟩
  iapply (wait_copy m K c (false, 1) rfl (credit_sC 1)) $$ [Hc1 HO HaS1]
  · isplitr; · iexact HR
    isplitl [Hc1]; · iexact Hc1
    isplitl [HO] <;> iassumption
  iintro ⟨⟨%Wsnd1, HO⟩, HaS1, Hs1⟩
  iapply (wait_copy m K c (false, 2) rfl (credit_sC 2)) $$ [Hc2 HO HaS2]
  · isplitr; · iexact HR
    isplitl [Hc2]; · iexact Hc2
    isplitl [HO] <;> iassumption
  iintro ⟨⟨%Wsnd2, HO⟩, HaS2, Hs2⟩
  iapply (wait_copy m K c (false, 3) rfl (credit_sC 3)) $$ [Hc3 HO HaS3]
  · isplitr; · iexact HR
    isplitl [Hc3]; · iexact Hc3
    isplitl [HO] <;> iassumption
  iintro ⟨⟨%Wsnd3, HO⟩, HaS3, Hs3⟩
  unfold pay
  icases Hs0 with ⟨%s0, Hs0⟩
  icases Hs1 with ⟨%s1, Hs1⟩
  icases Hs2 with ⟨%s2, Hs2⟩
  icases Hs3 with ⟨%s3, Hs3⟩
  imod (close_cells m K c) $$ [HaB HaS0 HaS1 HaS2 HaS3 HaV0 HaV1 HaV2 HaV3] with Hz
  · isplitr; · iexact HR
    rw [bigSep_KI]
    isplitl [HaB]; · iexact HaB
    isplitl [HaS0]; · iexact HaS0
    isplitl [HaS1]; · iexact HaS1
    isplitl [HaS2]; · iexact HaS2
    isplitl [HaS3]; · iexact HaS3
    isplitl [HaV0]; · iexact HaV0
    isplitl [HaV1]; · iexact HaV1
    isplitl [HaV2] <;> iassumption
  rw [wp_ret]
  imodintro
  iapply Hk
  unfold bodyPost Φ₁ Dat.owesAt Pipeline.owesWithin
  rw [show (dats m ρ 0 c).owed t₀.succ = 0 from rfl]
  isplitl [Hs0 Hs1 Hs2 Hs3 Hz]
  · isplitr [Hz]
    · iapply (sPts_join c ![s0, s1, s2, s3])
      rw [bigSep_four]
      isplitl [Hs0]; · iexact Hs0
      isplitl [Hs1]; · iexact Hs1
      isplitl [Hs2]; · iexact Hs2
      iexact Hs3
    iexact Hz
  isplitl [HO]
  · iexists Wsnd3
    isplitr; · ipureintro; exact fun _ _ => Or.inl trivial
    iexact HO
  isplitl [Hx]
  · iexists _; isplitr; · (ipureintro; rfl)
    iexact Hx
  isplitl [Hp]
  · iexists _; isplitr; · (ipureintro; rfl)
    iexact Hp
  iexists _; isplitr; · (ipureintro; rfl)
  ihave Ho := (Entails.of_eq (oPts_parts c (outAt m c)).symm) $$ [Hr0 Hr1 Hr2 Hr3]
  · rw [bigSep_four]
    isplitl [Hr0]; · iexact Hr0
    isplitl [Hr1]; · iexact Hr1
    isplitl [Hr2]; · iexact Hr2
    iexact Hr3
  unfold oPts
  iexact Ho

end Cert.KernelIdeal.Exchange

end
-- ==== Proof.KernelIdeal.Launch.lean ====
/-
The run of the whole mesh when the permutation swaps the two rows.

The launch mints one token for each of the nine cells of each device, hands each token to the device that pays the
cell's duty, and allocates the cells' invariants. Every device's body then runs, and the run ends with each device's
arrays at the contents the pipeline's data name and with every semaphore at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body, as the pipeline asks for it. -/
theorem body_obligation (hw : ∀ c, word m c = otherRow c) (c : Dev nD) :
    BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) pM (Memref.isWhole_whole _) oM (Memref.isWhole_whole _) sM (Memref.isWhole_whole _)
            cc0_scratch1 cc0_scratch2) (fun _ => bodyPost m ρ c)
  iintro H
  iapply (sound_body m ρ c (hw c) fun _ => bodyPost m ρ c)
  isplitl [H]; · iexact H
  iintro H; iexact H

/-! ## What the launch deals -/

/-- The kernel's own eight semaphores, by name. -/
abbrev osem (x : Bool × Fin 4) : SemLoc sig := csem (some x)

/-- The kernel's own semaphores are none of the pipeline's. -/
theorem ownSemFacts : Pipeline.OwnSemFacts cfg0.spec osem := by decide

theorem share_eq (c : Dev nD) (w : Fin cfg0.W) : (dats m ρ 0 c).share w = fullShare := by unfold Dat.share; split <;> rfl

/-- The cells of the exchange. -/
def exchangeCells : Finset (GSem nD τ sig) := Finset.univ.map ⟨kcell, kcell_injective⟩

/-- One token for each of them. -/
abbrev tokOf (ck : Dev nD × KI) : GSem nD τ sig × ℕ × Unit := (kcell ck, 0, ())
theorem tokOf_injective : Function.Injective (tokOf : Dev nD × KI → GSem nD τ sig × ℕ × Unit) :=
  fun _ _ h => kcell_injective (congrArg Prod.fst h)
def exchangeToks : Finset (GSem nD τ sig × ℕ × Unit) := Finset.univ.map ⟨tokOf, tokOf_injective⟩

/-- The element of the algebra the launch starts from: the pipeline's part and the exchange's. -/
def u₀ : UU :=
  (initOf (Pipeline.cells cfgs cellOf_inj) (Pipeline.launchToks cfgs cellOf_inj), initOf exchangeCells exchangeToks)

/-- What it deals device `c`: its cells' states, positions and marks, and its own cells' tokens. -/
def G (c : Dev nD) : sProp 𝕄 :=
  iprop((bigSep Finset.univ fun k : KI => roundState ER (sched m) (kcell (c, k)) 0)
    ∗ (bigSep Finset.univ fun k : KI => iprop(atPos ER (kcell (c, k)) 0 ∅ 0 ∗ reached ER (kcell (c, k)) 0))
    ∗ bigSep Finset.univ fun k : KI => dutyTok ER (kcell (c, k)) 0 ())

/-- What the global step makes of it. -/
def G' (c : Dev nD) : sProp 𝕄 := iprop(∃ K, ghost m K c)

/-- The exchange's part of the launch element is every device's deal. -/
theorem fund_exchange : BI.own (ER (initOf exchangeCells exchangeToks)) ⊢ (|==> bigSep Finset.univ (G m) : sProp 𝕄) := by
  have hX (Φ : GSem nD τ sig → sProp 𝕄) : bigSep exchangeCells Φ = bigSep Finset.univ fun c : Dev nD => bigSep Finset.univ fun k : KI => Φ (kcell (c, k)) := by
    unfold exchangeCells; rw [bigSep_map, bigSep_univ_prod]; rfl
  have hT : bigSep exchangeToks (fun x => (dutyTok ER x.1 x.2.1 x.2.2 : sProp 𝕄))
      = bigSep Finset.univ fun c : Dev nD => bigSep Finset.univ fun k : KI => dutyTok ER (kcell (c, k)) 0 () := by
    unfold exchangeToks; rw [bigSep_map, bigSep_univ_prod]; rfl
  iintro HX
  imod (Rounds.fund ER (sched m) exchangeCells exchangeToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own eight semaphores, written out. -/
theorem ownSems0_eq (c : Dev nD) : (Pipeline.ownSems0 (Ix := Unit) (Name := ℕ) (U := UU) (Lvl := ℕ) (Val := Elt F) (τ := τ) osem c : sProp 𝕄)
    = iprop(semVal (kcell (c, snd 0)) 0 ∗ semVal (kcell (c, snd 1)) 0 ∗ semVal (kcell (c, snd 2)) 0 ∗ semVal (kcell (c, snd 3)) 0
      ∗ semVal (kcell (c, rcv 0)) 0 ∗ semVal (kcell (c, rcv 1)) 0 ∗ semVal (kcell (c, rcv 2)) 0 ∗ semVal (kcell (c, rcv 3)) 0) := by
  rw [Pipeline.ownSems0_eq_of_list c osem [(false, 0), (false, 1), (false, 2), (false, 3), (true, 0), (true, 1), (true, 2), (true, 3)] (by decide) (by decide)]; rfl
/-- The barrier semaphore is the one the launch leaves unscoped. -/
theorem unscopedSems0_eq (c : Dev nD) : (unscopedSems0 c : sProp 𝕄) = semVal (kcell (c, bar)) 0 := by
  unfold unscopedSems0; rw [bigSep_eq_bigSepL_of_eq [SemLoc.reg barS] (by decide) (by decide)]; rfl

/-- Together they are the nine cells. -/
theorem sems0_eq (c : Dev nD) :
    (bigSep Finset.univ fun k : KI => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_KI]

/-- One device's cells, their invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (sched m) κ (kcell (c, k))))
          ∗ (bigSep Finset.univ fun k : KI => iprop(atPos ER (kcell (c, k)) 0 ∅ 0 ∗ reached ER (kcell (c, k)) 0))
          ∗ bigSep Finset.univ fun k : KI => dutyTok ER (kcell (c, k)) 0 ()) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KI => semVal (kcell (c, k)) 0) ∗ bigSep Finset.univ fun k : KI => roundState ER (sched m) (kcell (c, k)) 0)
      ⊢ (|={Set.univ}=> bigSep Finset.univ fun k : KI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Each cell taken to the cell of that name whose duty the device pays. -/
def payers : Dev nD × KI ≃ Dev nD × KI where
  toFun ck := (paid ck.1 ck.2, ck.2)
  invFun ck := (paid ck.1 ck.2, ck.2)
  left_inv := fun ⟨c, k⟩ => by
    match k with
    | none => exact congrArg (·, none) (peer_peer c)
    | some (false, j) => rfl
    | some (true, j) => exact congrArg (·, some (true, j)) (peer_peer c)
  right_inv := fun ⟨c, k⟩ => by
    match k with
    | none => exact congrArg (·, none) (peer_peer c)
    | some (false, j) => rfl
    | some (true, j) => exact congrArg (·, some (true, j)) (peer_peer c)

/-- The tokens, dealt to the devices that pay with them. -/
theorem toks_dealt : (bigSep Finset.univ fun c : Dev nD => bigSep Finset.univ fun k : KI => (dutyTok ER (kcell (c, k)) 0 () : sProp 𝕄))
    = bigSep Finset.univ fun c : Dev nD => bigSep Finset.univ fun k : KI => dutyTok ER (kcell (paid c k, k)) 0 () := by
  rw [← bigSep_univ_prod (fun ck : Dev nD × KI => (dutyTok ER (kcell ck) 0 () : sProp 𝕄)),
    bigSep_univ_equiv payers (fun ck : Dev nD × KI => (dutyTok ER (kcell ck) 0 () : sProp 𝕄)), bigSep_univ_prod]
  rfl

/-- A persistent fact goes to every member of a separating product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells gathered into the records, and everything dealt again. -/
theorem regroup :
    (bigSep Finset.univ fun c : Dev nD => iprop((bigSep Finset.univ fun k : KI => iprop(∃ κ : ℕ, cellInv ER (sched m) κ (kcell (c, k))))
          ∗ (bigSep Finset.univ fun k : KI => iprop(atPos ER (kcell (c, k)) 0 ∅ 0 ∗ reached ER (kcell (c, k)) 0))
          ∗ bigSep Finset.univ fun k : KI => dutyTok ER (kcell (c, k)) 0 ()) : sProp 𝕄)
      ⊢ bigSep Finset.univ (G' m) := by
  rw [bigSep_sep', bigSep_sep', ← bigSep_univ_prod (fun ck : Dev nD × KI => iprop(∃ κ : ℕ, cellInv ER (sched m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄)), toks_dealt]
  iintro ⟨HI, ⟨Hat, #HR⟩, Htok⟩
  ihave HK := (BI.bigSep_exists_pi Finset.univ (fun (ck : Dev nD × KI) (κ : ℕ) => (cellInv ER (sched m) κ (kcell ck) : sProp 𝕄))) $$ HI
  icases HK with ⟨%K, #HI⟩
  iapply (bigSep_with_persistent (R := records m K)
    (Φ := fun c => iprop((bigSep Finset.univ fun k : KI => atPos ER (kcell (c, k)) 0 ∅ 0) ∗ bigSep Finset.univ fun k : KI => dutyTok ER (kcell (paid c k, k)) 0 ()))
    (fun c _ => show iprop(records m K ∗ _) ⊢ G' m c from by
      unfold G' ghost
      iintro H
      iexists K
      iexact H))
  isplitr
  · unfold records; isplitl; · iexact HI
    iexact HR
  · rw [bigSep_sep']
    isplitl [Hat]; · iexact Hat
    iexact Htok

/-- The global step of the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Two cells are the same when device and name are. -/
theorem kcell_eq_iff {a b : Dev nD × KI} : kcell a = kcell b ↔ a = b := ⟨fun h => kcell_injective h, fun h => h ▸ rfl⟩

/-- What a tally at cell `b` holds at cell `a`. -/
theorem tally_at (a b : Dev nD × KI) (n : ℕ) :
    (tallyAt (kcell b) () n : CellTallies nD τ sig Unit) (kcell a) () = if a = b then n else 0 := by
  rw [tallyAt_apply]
  by_cases h : a = b
  · subst h; rw [if_pos ⟨rfl, rfl⟩, if_pos rfl]
  · rw [if_neg (fun h' => h (kcell_injective h'.1)), if_neg h]

/-- What `d` owes at a cell of `c`: its amount, if the cell is not a send cell and `d` is the peer. -/
theorem owed_at (d c : Dev nD) (k : KI) :
    O₀ d (kcell (c, k)) () = if d = peer c then (match k with | none => 1 | some (false, _) => 0 | some (true, _) => N) else 0 := by
  have hsum : O₀ d (kcell (c, k)) () = ((((0 + (if (c, k) = (peer d, rcv 3) then N else 0)) + (if (c, k) = (peer d, rcv 2) then N else 0))
      + (if (c, k) = (peer d, rcv 1) then N else 0)) + (if (c, k) = (peer d, rcv 0) then N else 0)) + (if (c, k) = (peer d, bar) then 1 else 0) := by
    rw [← tally_at (c, k) (peer d, rcv 3), ← tally_at (c, k) (peer d, rcv 2), ← tally_at (c, k) (peer d, rcv 1), ← tally_at (c, k) (peer d, rcv 0),
      ← tally_at (c, k) (peer d, bar)]
    rfl
  rw [hsum]
  by_cases h : d = peer c
  · subst h
    rw [if_pos rfl, peer_peer]
    match k with
    | none => simp
    | some (false, j) => simp
    | some (true, j) => fin_cases j <;> simp
  · have hc : c ≠ peer d := fun h' => h (by rw [h', peer_peer])
    simp [h, hc]

/-- The credit the launch gives a cell of `c`. -/
theorem launch_at (c : Dev nD) (k : KI) :
    tallyOn (kcell (c, k)) (launchCredit (Pipeline.owing O₀) 0 (kcell (c, k)))
      = (tallyAt (kcell (c, k)) () (match k with | none => 1 | some (false, _) => 0 | some (true, _) => N) : CellTallies nD τ sig Unit) := by
  unfold tallyAt; refine congrArg _ (Finsupp.ext fun u => ?_); cases u
  rw [Pipeline.launchCredit_owing, Finsupp.single_eq_same, Finset.sum_congr rfl fun d _ => owed_at d c k,
    Finset.sum_ite_eq' Finset.univ (peer c) fun _ => _, if_pos (Finset.mem_univ _)]

/-- The credit of `c`'s barrier cell and of its receive cells, out of the launch's. -/
theorem creds (c : Dev nD) :
    (Pipeline.launchCred O₀ c : sProp 𝕄)
      ⊢ iprop(cred (tallyAt (kcell (c, bar)) () 1) ∗ bigSep Finset.univ fun k : Fin 4 => cred (tallyAt (kcell (c, rcv k)) () N)) := by
  unfold Pipeline.launchCred
  rw [bigSep_univ_at _ (SemLoc.reg barS), launch_at c bar]
  refine sep_mono_right ?_
  have hinj : Function.Injective fun k : Fin 4 => csem (rcv k) := fun a b h => by
    have := csem_inj h; simpa using this
  have hsub : Finset.univ.map ⟨fun k : Fin 4 => csem (rcv k), hinj⟩ ⊆ Finset.univ.erase (SemLoc.reg barS) := by
    intro x hx
    obtain ⟨k, -, rfl⟩ := Finset.mem_map.mp hx
    exact Finset.mem_erase.mpr ⟨fun h => absurd (csem_inj (k := rcv k) (k' := bar) h) (fun h => by cases h), Finset.mem_univ _⟩
  refine (bigSep_subset hsub).trans ?_
  rw [bigSep_map]
  exact bigSep_mono fun k _ => Entails.of_eq (congrArg cred (launch_at c (rcv k)))

/-! ## The run -/

/-- What the launch hands `c` is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; unfold sPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨⟨%f, Hr⟩, HzB, Hz⟩
  isplitl [HzB]; · iexact HzB
  isplitl [Hz]; · iexact Hz
  iexists f; unfold sPts; iexact Hr

/-- The pipeline's own waits lie below everything the body owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each of `c`'s arrays holds when the pipeline is done. -/
def finalA (c : Dev nD) (w : Fin cfg0.W) : Buf (Elt F) ((cfg0.win w).arr.view.loc (c : Thread nD τ)) := (dats m ρ 0 c).arrAt w cfg0.N

set_option maxRecDepth 8000 in
/-- On the whole mesh, with the permutation swapping the two rows: every fair execution ends, with every device's arrays
    at their final contents and every semaphore at zero. -/
theorem run_main (hw : ∀ c, word m c = otherRow c) : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hw) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Stay.lean ====
/-
The run of the mesh when the permutation keeps every row where it is.

No device sends anything: each loads its block and stores it as its result. The kernel's semaphores and its scratch
buffer are carried through untouched.
-/
module

public import proofs.«01_k».proof.Proof.KernelIdeal.Launch
public import Idealize.ShloMosaic.Lib.Pipeline.KitQuiescent

@[expose] public section

noncomputable section

namespace Cert.KernelIdeal.Keep

open Cert.KernelIdeal Cert.KernelIdeal.Gen Cert.KernelIdeal.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is carried past the body: the kernel's semaphores and its scratch buffer. -/
def carried (c : Dev nD) : sProp 𝕄 :=
  iprop(Pipeline.ownSems0 (Ix := Unit) (Name := ℕ) (U := UU) (Lvl := ℕ) (Val := Elt F) (τ := τ) osem c ∗ Pipeline.scopedRest cfg0.spec c)

/-- What the pipeline is told: the body leaves each device's own block in its result, and owes nothing. -/
def dats (_ : Fin 1) (c : Dev nD) : Dat τ (Elt F) Unit ℕ UU ℕ cfg0 c where
  A w := (Exchange.s₀ m ρ).mem ((cfg0.win w).arr.view.loc (c : Thread nD τ))
  after w _ := match w with
    | ⟨0, _⟩ => xstg m c
    | ⟨1, _⟩ => pstg m c
    | ⟨2, _⟩ => xstg m c
  Φ _ := carried c
  q _ := fullShare
  owed _ := 0

/-- What the body finds. -/
def bodyPre (c : Dev nD) : sProp 𝕄 :=
  iprop(carried c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it leaves. -/
def bodyPost (c : Dev nD) : sProp 𝕄 :=
  iprop(carried c ∗ (dats m ρ 0 c).owesAt () t₀.succ ∗ stg c cc0_stg0_0 (xstg m c) ∗ stg c cc0_stg1_0 (pstg m c) ∗ stg c cc0_stg2_0 (xstg m c))

/-- The whole of a block, as the staying branch addresses it. -/
abbrev whole : Rect S1x1024x1024 := Rect.unit (s := S1x1024x1024) ![0, 0, 0] S1x1024x1024.size inb_S1x1024x1024_S1x1024x1024_0_0_0

theorem zeros : (![0, 0, 0] : Fin 3 → Nat) = fun _ => 0 := funext fun a => by fin_cases a <;> rfl

/-- Loading the whole block reads it. -/
theorem read_whole (f : cc0_stg0_0.ty.Contents (Elt F)) : xM.view.readAt (Elt F) whole.toLoadRect f = f :=
  Memref.readAt_unit_zero (Elt F) cc0_stg0_0 zeros _ f

/-- Storing the whole result replaces it. -/
theorem write_whole (f w : cc0_stg2_0.ty.Contents (Elt F)) : (oM.access whole).write (Elt F) f w Finset.univ = w :=
  Memref.write_access_unit_zero_univ (Elt F) cc0_stg2_0 zeros _ f w

set_option maxHeartbeats 800000 in
/-- The body on one device, told its own row. -/
theorem sound_body (c : Dev nD) (hw : word m c = ownRow c) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) pM (Memref.isWhole_whole _) oM (Memref.isWhole_whole _) sM (Memref.isWhole_whole _)
            cc0_scratch1 cc0_scratch2) Kt := by
  simp only [cc0_body_eq_skeleton]; unfold cc0_body_skel
  simp only [smemLoad, smemLoadElt, Prog.lift, Prog.bind_op, Prog.bind_ret, Prog.pure_eq_ret, wp_deviceId]
  unfold bodyPre
  iintro ⟨⟨Hcar, Ho, ⟨%d0, %g0, %hg0, Hx⟩, ⟨%d1, %g1, %hg1, Hp⟩, ⟨%d2, %g2, %hg2, Hout⟩⟩, Hk⟩
  have hx : g0 = xstg m c := by rw [hg0]; unfold Dat.before; rw [if_pos (fetch0_0 t₀)]; rfl
  have hp : g1 = pstg m c := by rw [hg1]; unfold Dat.before; rw [if_pos (fetch0_1 t₀)]; rfl
  subst hx hp
  iapply (wp_load_rect 𝒱₀ (c : Thread nD τ) none Set.univ (m := pM) (r := Rect.unit (s := S2) (k0_off1 c) S1.size (k0_off1_inb c)) (Finset.subset_univ _)) $$ Hp
  iintro Hp
  rw [show (pM.access (Rect.unit (s := S2) (k0_off1 c) S1.size (k0_off1_inb c))).read (Elt F) (pstg m c)
    (Shape.Idx.first (numel1_S1.symm ▸ Nat.one_pos)) = ownRow c from hw]
  simp only [wp_assume_of _ _ _ _ (d := k0_chk1.dec _ _) (chk_own c)]
  rw [dif_neg (cond_own c)]
  have hk := keeps_own c
  unfold keeps at hk
  simp only [hk, if_true, Prog.bind_ret]
  iapply (wp_load 𝒱₀ (c : Thread nD τ) none Set.univ (m := xM) (Finset.subset_univ _)) $$ Hx
  iintro Hx
  iapply (wp_load 𝒱₀ (c : Thread nD τ) none Set.univ (m := oM) (Finset.subset_univ _)) $$ Hout
  iintro Hout
  iapply (wp_store 𝒱₀ (c : Thread nD τ) none Set.univ (m := oM) (r := whole) (Mk := Finset.univ) (Finset.subset_univ _)) $$ Hout
  iintro Hout
  rw [read_whole, pay_whole, write_whole, wp_ret]
  imodintro
  iapply Hk
  unfold bodyPost
  isplitl [Hcar]; · iexact Hcar
  isplitl [Ho]; · iexact Ho
  isplitl [Hx]
  · iexists _; isplitr; · (ipureintro; rfl)
    iexact Hx
  isplitl [Hp]
  · iexists _; isplitr; · (ipureintro; rfl)
    iexact Hp
  iexists _; isplitr; · (ipureintro; rfl)
  iexact Hout

/-- The body, as the pipeline asks for it. -/
theorem body_obligation (hw : ∀ c, word m c = ownRow c) (c : Dev nD) :
    BodyObligation (dats (F := F) m ρ 0 c) (defs₀ (F := F)) 𝒱₀ () Set.univ := fun t => by
  rw [fin_N0 t]
  rw [bigSep_W0, bigSep_W0]
  simp only [Exchange.owns_whole_eq]
  show bodyPre m ρ c ⊢ wp frame (wpE (defs₀ (F := F)) 𝒱₀ c none) Set.univ
    (cc0_body xM (Memref.isWhole_whole _) pM (Memref.isWhole_whole _) oM (Memref.isWhole_whole _) sM (Memref.isWhole_whole _)
            cc0_scratch1 cc0_scratch2) (fun _ => bodyPost m ρ c)
  iintro H
  iapply (sound_body m ρ c (hw c) fun _ => bodyPost m ρ c)
  isplitl [H]; · iexact H
  iintro H; iexact H

/-- The pipeline's part of the launch element, and nothing else. -/
def u₀ : UU := (initOf (Pipeline.cells cfgs cellOf_inj) (Pipeline.launchToks cfgs cellOf_inj), 1)

/-- What each of `c`'s arrays holds when the pipeline is done. -/
def finalA (c : Dev nD) (w : Fin cfg0.W) : Buf (Elt F) ((cfg0.win w).arr.view.loc (c : Thread nD τ)) := (dats m ρ 0 c).arrAt w cfg0.N

/-- On the whole mesh, with the permutation keeping the rows: every fair execution ends, with every device's arrays at
    their final contents and every semaphore at zero. -/
theorem run_main (hw : ∀ c, word m c = ownRow c) : θ_run defs (onTc (τ := τ) (main (F := F))) (Exchange.s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_kit_quiescent cfgs (dats m ρ) () (0 : Fin 1) launch0 ownSemFacts EP defs₀ 𝒱₀ m ρ main
    (hbody := fun c => (body_obligation m ρ hw c).loose) (hshare := fun c => (dats m ρ 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun c => Pipeline.ownSems0 osem c) (Y := fun _ => iprop(emp)) (Z := fun _ => iprop(emp))
    (hX := fun c => by
      iintro ⟨-, Hs, -, -, -⟩
      imodintro
      isplitl [Hs]; · iexact Hs
      iempintro)
    (hin := fun c => by
      show _ ⊢ carried c
      unfold carried
      iintro H; iexact H)
    (hout := fun c => by
      show carried c ⊢ _
      unfold carried
      iintro H
      isplitr; · iempintro
      iexact H)
    (QY := fun _ _ => True)
    (hY := fun c s' => by
      iintro ⟨-, -, HSI⟩
      imodintro
      isplitr; · (ipureintro; trivial)
      iexact HSI)
    (hQ := fun s h hz => ⟨fun c w => (h c).1 w, hz⟩)

end Cert.KernelIdeal.Keep

end
-- ==== Proof.KernelIdeal.Values.lean ====
/-
What the mesh leaves in memory, device by device.

The permutation's word at a device's row follows from the precondition; with it the run of the swapping case leaves on
each device the peer's block, and the run of the staying case the device's own block. The arguments are unchanged and
every semaphore is at zero.
-/
module

public import proofs.«01_k».proof.Proof.KernelIdeal.Stay
public import proofs.«01_k».proof.Proof.Gen.Pre_swapping_Kernel
public import proofs.«01_k».proof.Proof.Gen.Pre_staying_Kernel
public import Idealize.ShloMosaic.Lib.StableHlo.Predicate

@[expose] public section

noncomputable section

namespace Cert.KernelIdeal.Values

open Cert.KernelIdeal Cert.KernelIdeal.Gen Cert.KernelIdeal.Exchange

open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The one block of each window is the whole array -/

/-- The staged block of `x` is the array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The staged permutation is the array. -/
theorem pstg_eq (c : Dev nD) : pstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- Reading the result window's block of an array reads the array. -/
theorem read_out (f : main_v1.ty.Contents (Elt F)) : (win0_2.blk (0 : Fin 1)).view.read (Elt F) f = f := by
  have hz : (fun a => (win0_2.index (0 : Fin 1)) a * main_v1.ty.shape.size a) = fun _ => 0 :=
    funext fun a => by fin_cases a <;> decide
  exact Memref.read_access_unit_zero (Elt F) main_v1 hz (fun a => by fin_cases a <;> decide) _

/-! ## The word of the permutation -/

/-- The index of row `r` in the permutation. -/
abbrev at_row (r : Fin 2) : S2.Idx := fun a => ⟨r.val, by fin_cases a; exact r.isLt⟩

/-- The word the kernel on `c` loads is the permutation's at `c`'s row. -/
theorem word_eq (c : Dev nD) : word m c = m ((c : Thread nD τ).loc main_arg1) (at_row (row c)) := by
  unfold word
  rw [pstg_eq]
  show m ((c : Thread nD τ).loc main_arg1) _ = _
  refine congrArg _ (funext fun a => ?_)
  fin_cases a
  fin_cases c <;> rfl

/-- Equal words are what a comparison that reads one compared. -/
theorem eq_of_cmpi {a b : BitVec 32} (h : IntOp.cmpi .eq a b = 1#1) : a = b := StableHlo.Predicate.cmpi_eq_iff.mp h

/-- A swapping permutation holds the other row. -/
theorem word_swapping (h : ∀ c : Dev nD, Cert.Pre_swapping_Kernel.fn (F := F) (m ((c : Thread nD τ).loc main_arg0)) (m ((c : Thread nD τ).loc main_arg1)) = fun _ => 1#1)
    (c : Dev nD) : word m c = otherRow c := by
  rw [word_eq]
  refine (eq_of_cmpi (congrFun (h c) (at_row (row c)))).trans ?_
  show (1#32 - BitVec.ofNat 32 (row c).val : BitVec 32) = otherRow c
  revert c
  decide

/-- A staying permutation holds the device's own row. -/
theorem word_staying (h : ∀ c : Dev nD, Cert.Pre_staying_Kernel.fn (F := F) (m ((c : Thread nD τ).loc main_arg0)) (m ((c : Thread nD τ).loc main_arg1)) = fun _ => 1#1)
    (c : Dev nD) : word m c = ownRow c := by
  rw [word_eq]
  refine (eq_of_cmpi (congrFun (h c) (at_row (row c)))).trans ?_
  show (BitVec.ofNat 32 (row c).val : BitVec 32) = ownRow c
  revert c
  decide

/-! ## The arrays at the end -/

/-- Whatever the body leaves in the result's staging buffer is what the result array ends with. -/
theorem out_of_after (c : Dev nD) (dat : Dat τ (Elt F) Unit ℕ UU ℕ cfg0 c) : dat.arrAt (2 : Fin 3) cfg0.N = dat.after (2 : Fin 3) (0 : Fin 1) := by
  rw [← read_out (dat.arrAt (2 : Fin 3) cfg0.N)]
  rw [show cfg0.N = ((0 : Fin 1) : Fin cfg0.N).val + 1 from rfl, dat.arrAt_succ (2 : Fin 3) (0 : Fin 1)]
  rw [show (cfg0.win (2 : Fin 3)).flush (0 : Fin 1) = true from by decide, if_pos rfl]
  exact View.read_write_univ _ _

/-- The swapping run: each device ends with its peer's block. -/
theorem run_swapping (h : ∀ c : Dev nD, Cert.Pre_swapping_Kernel.fn (F := F) (m ((c : Thread nD τ).loc main_arg0)) (m ((c : Thread nD τ).loc main_arg1)) = fun _ => 1#1) :
    θ_run defs (onTc (τ := τ) (main (F := F))) ⟨m, fun _ => 0, ρ⟩ (fun r =>
      (∀ c : Dev nD, r.2.mem ((c : Thread nD τ).loc main_v1) = m ((peer c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  refine (θ_run _ _ _).mono ?_ (Exchange.run_main m ρ (word_swapping m h))
  rintro r ⟨hr, hs⟩
  refine ⟨fun c => ⟨?_, ?_, ?_⟩, hs⟩
  · refine (hr c (2 : Fin 3)).trans ((out_of_after c (Exchange.dats m ρ 0 c)).trans ?_)
    exact xstg_eq m (peer c)
  · exact (hr c (0 : Fin 3)).trans ((Exchange.dats m ρ 0 c).arrAt_in (0 : Fin 3) rfl _)
  · exact (hr c (1 : Fin 3)).trans ((Exchange.dats m ρ 0 c).arrAt_in (1 : Fin 3) rfl _)

/-- The staying run: each device ends with its own block. -/
theorem run_staying (h : ∀ c : Dev nD, Cert.Pre_staying_Kernel.fn (F := F) (m ((c : Thread nD τ).loc main_arg0)) (m ((c : Thread nD τ).loc main_arg1)) = fun _ => 1#1) :
    θ_run defs (onTc (τ := τ) (main (F := F))) ⟨m, fun _ => 0, ρ⟩ (fun r =>
      (∀ c : Dev nD, r.2.mem ((c : Thread nD τ).loc main_v1) = m ((c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  refine (θ_run _ _ _).mono ?_ (Keep.run_main m ρ (word_staying m h))
  rintro r ⟨hr, hs⟩
  refine ⟨fun c => ⟨?_, ?_, ?_⟩, hs⟩
  · refine (hr c (2 : Fin 3)).trans ((out_of_after c (Keep.dats m ρ 0 c)).trans ?_)
    exact xstg_eq m c
  · exact (hr c (0 : Fin 3)).trans ((Keep.dats m ρ 0 c).arrAt_in (0 : Fin 3) rfl _)
  · exact (hr c (1 : Fin 3)).trans ((Keep.dats m ρ 0 c).arrAt_in (1 : Fin 3) rfl _)

end Cert.KernelIdeal.Values

end
-- ==== Proof.Reference.lean ====
/-
What the reference computes.

Its result at row `r` is the argument at the row where the permutation's sorting order has its `r`-th entry. Of the
swapping permutation that is the other row, of the staying permutation the same row. The two format changes at the end
do nothing to an extended real.
-/
module

public import proofs.«01_k».proof.Proof.Gen.ReferenceIdeal.Run
public import Idealize.ShloMosaic.Lib.StableHlo.Predicate
public import Idealize.ShloMosaic.PureOps.Ideal

@[expose] public section

noncomputable section

namespace Cert.ReferenceIdeal.Rows

open Cert.ReferenceIdeal Cert.ReferenceIdeal.Gen
open Idealize.ShloMosaic
open Idealize.ShloMosaic.TcCoe
open Idealize.SL.Sem

/-- The index of entry `r` of the permutation. -/
abbrev entry (r : Fin 2) : S2.Idx := fun a => ⟨r.val, by fin_cases a; exact r.isLt⟩

/-- The permutation's sorting order, negative entries moved up by two as indexing does. -/
abbrev starts (p : IVec S2 32) : IVec S2 32 :=
  select (cmpi .slt ((Host.sort2 S2 0 comparator_i32_i32_d0 p (iotaInDim S2 32 0)).2) (broadcastInDim S2 ![] bcast_S_S2 (constantI S_ 32 0#32)))
    (addi ((Host.sort2 S2 0 comparator_i32_i32_d0 p (iotaInDim S2 32 0)).2) (broadcastInDim S2 ![] bcast_S_S2 (constantI S_ 32 2#32)))
    ((Host.sort2 S2 0 comparator_i32_i32_d0 p (iotaInDim S2 32 0)).2)

/-- The swapping permutation, whole. -/
abbrev swapping : IVec S2 32 := fun i => 1#32 - BitVec.ofNat 32 (i 0).val

/-- The staying permutation, whole. -/
abbrev staying : IVec S2 32 := fun i => BitVec.ofNat 32 (i 0).val

/-- The sorting order of the swapping permutation swaps. -/
theorem starts_swapping (r : Fin 2) : starts swapping (entry r) = BitVec.ofNat 32 (1 - r.val) := by
  revert r; decide

/-- The sorting order of the staying permutation stays. -/
theorem starts_staying (r : Fin 2) : starts staying (entry r) = BitVec.ofNat 32 r.val := by
  revert r; decide

/-- The index `j` with its row replaced by `r`. -/
abbrev atRow (r : Fin 2) (j : S2x1024x1024.Idx) : S2x1024x1024.Idx := fun a =>
  match a with
  | ⟨0, _⟩ => r
  | ⟨1, _⟩ => j 1
  | ⟨2, _⟩ => j 2

/-- Taking rows by words: result row `r` is the operand's row number `st r`, where that is a row. -/
theorem take_row {α : Type} (x : S2x1024x1024.Idx → α) (st : IVec S2 32) (g : Fin 2 → Fin 2)
    (h : ∀ r, st (entry r) = BitVec.ofNat 32 (g r).val) (j : S2x1024x1024.Idx) :
    Host.gather gather_S2x1024x1024_S2x1_S2x1024x1024_12_0_n_n_0_1_110241024 x (broadcastInDim S2x1 ![0] bcast_S2_S2x1_0 st) j
      = x (atRow (g (j 0)) j) := by
  unfold Host.gather
  refine congrArg x (funext fun a => Fin.ext ?_)
  have hb : a ∉ gather_S2x1024x1024_S2x1_S2x1024x1024_12_0_n_n_0_1_110241024.operandBatchingDims := List.not_mem_nil
  show GatherDims.start _ j _ a + GatherDims.batchCoord _ j a + GatherDims.offCoord _ j a = _
  rw [GatherDims.batchCoord_eq_zero _ _ _ hb, Nat.add_zero]
  have hcase : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcase with rfl | rfl | rfl
  · rw [GatherDims.offCoord_eq_zero _ _ _ (by decide), Nat.add_zero]
    unfold GatherDims.start
    rw [dif_pos (show (0 : Fin 3) ∈ gather_S2x1024x1024_S2x1_S2x1024x1024_12_0_n_n_0_1_110241024.startIndexMap from List.mem_singleton.mpr rfl)]
    have e : broadcastInDim S2x1 ![0] bcast_S2_S2x1_0 st (gather_S2x1024x1024_S2x1_S2x1024x1024_12_0_n_n_0_1_110241024.siIdx j
        ⟨List.idxOf (0 : Fin 3) gather_S2x1024x1024_S2x1_S2x1024x1024_12_0_n_n_0_1_110241024.startIndexMap,
          List.idxOf_lt_length_iff.2 (List.mem_singleton.mpr rfl)⟩) = st (entry (j 0)) := by
      unfold broadcastInDim
      refine congrArg st (funext fun b => Fin.ext ?_)
      fin_cases b
      rfl
    rw [e, h (j 0)]
    show min (BitVec.ofNat 32 (g (j 0)).val).toInt.toNat 1 = (g (j 0)).val
    generalize g (j 0) = q
    revert q
    decide
  · unfold GatherDims.start
    rw [dif_neg (by decide), Nat.zero_add]
    rfl
  · unfold GatherDims.start
    rw [dif_neg (by decide), Nat.zero_add]
    rfl

/-- The argument with its rows read through `g`. -/
abbrev rowsBy {α : Type} (g : Fin 2 → Fin 2) (x : S2x1024x1024.Idx → α) : S2x1024x1024.Idx → α := fun j => x (atRow (g (j 0)) j)

/-- The reference's run where the permutation's sorting order is `g`: the result is the argument, rows read through `g`. -/
theorem run_rows (m : (ℓ : Loc nD τ sig) → Buf (Elt Ideal) ℓ) (ρ : Dev nD → PrngReg) (g : Fin 2 → Fin 2)
    (h : ∀ r, starts (m (((0 : Dev nD).tc : Thread nD τ).loc main_arg1)) (entry r) = BitVec.ofNat 32 (g r).val) :
    θ_run (defs (F := Ideal)) (onTc (τ := τ) (main (F := Ideal))) ⟨m, fun _ => 0, ρ⟩ fun r =>
      r.2.mem (((0 : Dev nD).tc : Thread nD τ).loc main_v9) = rowsBy g (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) := by
  refine (θ_run _ _ _).mono ?_ (Cert.ReferenceIdeal.Value.run (F := Ideal) m ρ)
  intro r hr
  refine ⟨(hr 0).1.trans (funext fun j => ?_), (hr 0).2⟩
  exact take_row _ _ g h j

/-- The reference's frame, with every semaphore at zero. -/
theorem run_quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine (θ_run _ _ _).mono ?_ (Cert.ReferenceIdeal.Value.run (F := Ideal) m ρ)
  intro r hr
  refine ⟨fun c => (hr c).2, funext fun ⟨_, sm⟩ => ?_⟩
  cases sm with
  | reg q => exact q.elim0
  | dma q => exact q.elim0

end Cert.ReferenceIdeal.Rows

end
-- ==== Proof.Equation.lean ====
/-
The kernel's result against the reference's.

A device's part of a whole array is the row it stands at. Reading the rows through the exchange of the two rows and
cutting out a device's part gives the peer's part; reading them through the identity gives the part itself. With what
the mesh leaves in memory and what the reference computes, that is the equation of the two programs.
-/
module

public import proofs.«01_k».proof.Defs
public import proofs.«01_k».proof.Proof.KernelIdeal.Values
public import proofs.«01_k».proof.Proof.Reference

@[expose] public section

noncomputable section

namespace Cert.Equation

open Idealize.ShloMosaic
open Idealize.ShloMosaic.TcCoe
open Idealize.SL.Sem
open Cert.KernelIdeal.Exchange (peer)
open Cert.KernelIdeal.Values (at_row)
open Cert.ReferenceIdeal.Rows (rowsBy atRow entry starts swapping staying)

/-- Device `c`'s part of a whole array. -/
abbrev part {α : Type} (c : Dev Cert.KernelIdeal.nD) (x : (⟨3, ![2, 1024, 1024]⟩ : Shape).Idx → α) : (⟨3, ![1, 1024, 1024]⟩ : Shape).Idx → α :=
  Layout.blockN ⟨3, ![1, 1024, 1024]⟩ ⟨3, ![2, 1024, 1024]⟩ (Layout.meshBlock [2, 2, 2] ![[1], [], []] c) x

/-- The other row of two. -/
abbrev other (r : Fin 2) : Fin 2 := ⟨1 - r.val, by omega⟩

/-- The row of device `c` on the middle mesh axis, as the layout counts it. -/
abbrev rowOf (c : Dev Cert.KernelIdeal.nD) : Nat := Layout.meshLin [2, 2, 2] c.val [1]

/-- The peer stands at the other row. -/
theorem rowOf_peer (c : Dev Cert.KernelIdeal.nD) : rowOf (peer c) = 1 - rowOf c := by revert c; decide

/-- If `g` takes `c`'s row to `d`'s, then `c`'s part of the array with rows read through `g` is `d`'s part of the array. -/
theorem part_rowsBy {α : Type} (g : Fin 2 → Fin 2) (c d : Dev Cert.KernelIdeal.nD)
    (h : ∀ r : Fin 2, r.val = rowOf c → (g r).val = rowOf d) (x : (⟨3, ![2, 1024, 1024]⟩ : Shape).Idx → α) :
    part c (rowsBy g x) = part d x := by
  funext i
  refine congrArg x (funext fun a => Fin.ext ?_)
  have hi : (i 0).val = 0 := Nat.lt_one_iff.mp (i 0).isLt
  have hcase : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcase with rfl | rfl | rfl
  · refine (h _ ?_).trans ?_
    · show rowOf c * 1 + (i 0).val = rowOf c
      omega
    · show rowOf d = rowOf d * 1 + (i 0).val
      omega
  · rfl
  · rfl

/-- A device's part of the array with its two rows exchanged is the peer's part. -/
theorem part_exchanged {α : Type} (c : Dev Cert.KernelIdeal.nD) (x : (⟨3, ![2, 1024, 1024]⟩ : Shape).Idx → α) :
    part c (rowsBy other x) = part (peer c) x :=
  part_rowsBy other c (peer c) (fun r hr => by rw [rowOf_peer]; show 1 - r.val = _; rw [hr]) x

/-- A device's part of the array with its rows in place is its part. -/
theorem part_kept {α : Type} (c : Dev Cert.KernelIdeal.nD) (x : (⟨3, ![2, 1024, 1024]⟩ : Shape).Idx → α) :
    part c (rowsBy id x) = part c x :=
  part_rowsBy id c c (fun r hr => hr) x

/-- A permutation that meets the swapping precondition is the swapping permutation. -/
theorem eq_swapping (x : FVec Ideal Cert.Pre_swapping_Kernel.S1x1024x1024 .bf16) (p : IVec Cert.Pre_swapping_Kernel.S2 32)
    (h : Cert.Pre_swapping_Kernel.fn (F := Ideal) x p = fun _ => 1#1) : p = swapping :=
  funext fun i => Cert.KernelIdeal.Values.eq_of_cmpi (congrFun h i)

/-- A permutation that meets the staying precondition is the staying permutation. -/
theorem eq_staying (x : FVec Ideal Cert.Pre_staying_Kernel.S1x1024x1024 .bf16) (p : IVec Cert.Pre_staying_Kernel.S2 32)
    (h : Cert.Pre_staying_Kernel.fn (F := Ideal) x p = fun _ => 1#1) : p = staying :=
  funext fun i => Cert.KernelIdeal.Values.eq_of_cmpi (congrFun h i)

/-- The equation where the permutation swaps. -/
theorem swapped : Cert.algebraic_KernelIdeal_ReferenceIdeal := by
  intro m g m' g' hpre hagree
  refine ⟨rowsBy other (m' (((0 : Dev Cert.ReferenceIdeal.nD).tc : Thread Cert.ReferenceIdeal.nD Cert.ReferenceIdeal.τ).loc Cert.ReferenceIdeal.main_arg0)), ?_, ?_⟩
  · refine (θ_run _ _ _).mono ?_ (Cert.KernelIdeal.Values.run_swapping (F := Ideal) m g hpre)
    rintro r ⟨hr, -⟩ c
    refine ⟨(hr c).1.trans ((hagree (peer c)).1.trans ?_), (hr c).2⟩
    exact (part_exchanged c _).symm
  · refine Cert.ReferenceIdeal.Rows.run_rows m' g' other fun r => ?_
    rw [← (hagree 0).2, eq_swapping _ _ (hpre 0)]
    exact Cert.ReferenceIdeal.Rows.starts_swapping r

/-- The equation where the permutation stays. -/
theorem stayed : Cert.algebraic_KernelIdeal_ReferenceIdeal_pre_staying_Kernel := by
  intro m g m' g' hpre hagree
  refine ⟨rowsBy id (m' (((0 : Dev Cert.ReferenceIdeal.nD).tc : Thread Cert.ReferenceIdeal.nD Cert.ReferenceIdeal.τ).loc Cert.ReferenceIdeal.main_arg0)), ?_, ?_⟩
  · refine (θ_run _ _ _).mono ?_ (Cert.KernelIdeal.Values.run_staying (F := Ideal) m g hpre)
    rintro r ⟨hr, -⟩ c
    refine ⟨(hr c).1.trans ((hagree c).1.trans ?_), (hr c).2⟩
    exact (part_kept c _).symm
  · refine Cert.ReferenceIdeal.Rows.run_rows m' g' id fun r => ?_
    rw [← (hagree 0).2, eq_staying _ _ (hpre 0)]
    exact Cert.ReferenceIdeal.Rows.starts_staying r

end Cert.Equation

end
-- ==== Proof.lean ====
/-
The claim: the kernel as compiled, the kernel over exact numbers and the reference each run to the end, leave their
arguments as they were and every semaphore at zero; the kernel over exact numbers is the kernel's own text; and its
result is the reference's, where the permutation swaps the two rows and where it keeps them.

Each conjunct is one statement of the modules imported: the runs are in `Values` (once per float instance), the
reference in `Reference`, the equations in `Equation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swapping_Kernel
public import proofs.«01_k».proof.Proof.Gen.Pre_staying_Kernel
public import proofs.«01_k».proof.Proof.Gen.Pre_swapping_ReferenceIdeal
public import proofs.«01_k».proof.Proof.Gen.Pre_staying_ReferenceIdeal
public import proofs.«01_k».proof.Proof.Kernel.Values
public import proofs.«01_k».proof.Proof.KernelIdeal.Values
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Kernel

/-- The kernel as compiled runs to the end where the permutation swaps. -/
theorem frame_swapping : Cert.quiescent_Kernel := fun m g h =>
  (θ_run _ _ _).mono (fun _ hr => ⟨fun c => (hr.1 c).2, hr.2⟩) (Cert.Kernel.Values.run_swapping (F := Bits) m g h)

/-- And where it stays. -/
theorem frame_staying : Cert.quiescent_Kernel_pre_staying_Kernel := fun m g h =>
  (θ_run _ _ _).mono (fun _ hr => ⟨fun c => (hr.1 c).2, hr.2⟩) (Cert.Kernel.Values.run_staying (F := Bits) m g h)

/-- The kernel over exact numbers runs to the end where the permutation swaps. -/
theorem ideal_swapping : Cert.quiescent_KernelIdeal := fun m g h =>
  (θ_run _ _ _).mono (fun _ hr => ⟨fun c => (hr.1 c).2, hr.2⟩) (Cert.KernelIdeal.Values.run_swapping (F := Ideal) m g h)

/-- And where it stays. -/
theorem ideal_staying : Cert.quiescent_KernelIdeal_pre_staying_Kernel := fun m g h =>
  (θ_run _ _ _).mono (fun _ hr => ⟨fun c => (hr.1 c).2, hr.2⟩) (Cert.KernelIdeal.Values.run_staying (F := Ideal) m g h)

/-- All of it. -/
theorem claim : Cert.Claim := ⟨Cert.Kernel.Gen.facts, Cert.KernelIdeal.Gen.facts, Cert.ReferenceIdeal.Gen.facts, Cert.Pre_swapping_Kernel.Gen.facts, Cert.Pre_staying_Kernel.Gen.facts, Cert.Pre_swapping_ReferenceIdeal.Gen.facts, Cert.Pre_staying_ReferenceIdeal.Gen.facts,
  frame_swapping, frame_staying, ideal_swapping, ideal_staying,
  fun m g _ => Cert.ReferenceIdeal.Rows.run_quiet m g, fun m g _ => Cert.ReferenceIdeal.Rows.run_quiet m g,
  fun m g _ => Cert.ReferenceIdeal.Rows.run_quiet m g, trivial, Cert.Equation.swapped, Cert.Equation.stayed⟩

end Cert.Proof

end
